-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_finite_scales [hPre_finite_scales : Cert.Pre_finite_scales.Facts] (m : (ℓ : Loc Cert.DhIdeal.nD Cert.DhIdeal.τ Cert.DhIdeal.sig) → Buf (Elt Ideal) ℓ) : Prop :=
  ∀ c : Dev Cert.DhIdeal.nD,
    (Cert.Pre_finite_scales.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4)) (m ((c.tc : Thread Cert.DhIdeal.nD Cert.DhIdeal.τ).loc Cert.DhIdeal.main_arg5)) (m ((c.tc : Thread Cert.DhIdeal.nD Cert.DhIdeal.τ).loc Cert.DhIdeal.main_arg6)) (m ((c.tc : Thread Cert.DhIdeal.nD Cert.DhIdeal.τ).loc Cert.DhIdeal.main_arg7))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_finite_scales [hPre_finite_scales : Cert.Pre_finite_scales.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_finite_scales.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4)) (m ((c.tc : Thread Cert.DhRefIdeal.nD Cert.DhRefIdeal.τ).loc Cert.DhRefIdeal.main_arg5)) (m ((c.tc : Thread Cert.DhRefIdeal.nD Cert.DhRefIdeal.τ).loc Cert.DhRefIdeal.main_arg6)) (m ((c.tc : Thread Cert.DhRefIdeal.nD Cert.DhRefIdeal.τ).loc Cert.DhRefIdeal.main_arg7))) = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_DhIdeal_pre_finite_scales [hDhIdeal : Cert.DhIdeal.Facts] [hPre_finite_scales : Cert.Pre_finite_scales.Facts] : Prop :=
  ∀ (m : (ℓ : Loc Cert.DhIdeal.nD Cert.DhIdeal.τ Cert.DhIdeal.sig) → Buf (Elt Ideal) ℓ) (g : Dev Cert.DhIdeal.nD → PrngReg), Pre_DhIdeal_finite_scales m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7))
      ∧ r.2.sem = fun _ => 0)

def quiescent_DhRefIdeal_pre_finite_scales [hDhRefIdeal : Cert.DhRefIdeal.Facts] [hPre_finite_scales : Cert.Pre_finite_scales.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_finite_scales m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5)
      ∧ r.2.mem ((c.tc : Thread Cert.LnRefIdeal.nD Cert.LnRefIdeal.τ).loc Cert.LnRefIdeal.main_arg6) = m ((c.tc : Thread Cert.LnRefIdeal.nD Cert.LnRefIdeal.τ).loc Cert.LnRefIdeal.main_arg6))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v4)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v4) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)) →
    ∃ (v0 : (c : Dev Cert.DwQkvIdeal.nD) → Buf (Elt Ideal) ((c.tc : Thread Cert.DwQkvIdeal.nD Cert.DwQkvIdeal.τ).loc Cert.DwQkvIdeal.main_v6)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v6) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v2) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)) →
    ∃ (v0 : (c : Dev Cert.DwInIdeal.nD) → Buf (Elt Ideal) ((c.tc : Thread Cert.DwInIdeal.nD Cert.DwInIdeal.τ).loc Cert.DwInIdeal.main_v5)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v5) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v1) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4))

def preserves_Dh_DhIdeal : Prop :=
  True

def algebraic_DhIdeal_DhRefIdeal_pre_finite_scales [hDhIdeal : Cert.DhIdeal.Facts] [hDhRefIdeal : Cert.DhRefIdeal.Facts] [hPre_finite_scales : Cert.Pre_finite_scales.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_finite_scales m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)) →
    ∃ (v0 : (c : Dev Cert.DhIdeal.nD) → Buf (Elt Ideal) ((c.tc : Thread Cert.DhIdeal.nD Cert.DhIdeal.τ).loc Cert.DhIdeal.main_v4)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v4) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v3) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)
      ∧ m' ((c.tc : Thread Cert.LnRefIdeal.nD Cert.LnRefIdeal.τ).loc Cert.LnRefIdeal.main_arg6) = m ((c.tc : Thread Cert.LnIdeal.nD Cert.LnIdeal.τ).loc Cert.LnIdeal.main_arg6)) →
    ∃ (v0 : (c : Dev Cert.LnIdeal.nD) → Buf (Elt Ideal) ((c.tc : Thread Cert.LnIdeal.nD Cert.LnIdeal.τ).loc Cert.LnIdeal.main_v6_0)) (v1 : (c : Dev Cert.LnIdeal.nD) → Buf (Elt Ideal) ((c.tc : Thread Cert.LnIdeal.nD Cert.LnIdeal.τ).loc Cert.LnIdeal.main_v6_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v6_0) = v0 c
          ∧ r.2.mem ((c.tc : Thread Cert.LnIdeal.nD Cert.LnIdeal.τ).loc Cert.LnIdeal.main_v6_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v1_0) = v0 c
          ∧ r.2.mem ((c.tc : Thread Cert.LnRefIdeal.nD Cert.LnRefIdeal.τ).loc Cert.LnRefIdeal.main_v1_1) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5)
          ∧ r.2.mem ((c.tc : Thread Cert.LnRefIdeal.nD Cert.LnRefIdeal.τ).loc Cert.LnRefIdeal.main_arg6) = m' ((c.tc : Thread Cert.LnRefIdeal.nD Cert.LnRefIdeal.τ).loc Cert.LnRefIdeal.main_arg6))

def Claim : Prop :=
  ∃ (hDwOut : Cert.DwOut.Facts) (hDwOutIdeal : Cert.DwOutIdeal.Facts) (hDwOutRefIdeal : Cert.DwOutRefIdeal.Facts) (hDwQkv : Cert.DwQkv.Facts) (hDwQkvIdeal : Cert.DwQkvIdeal.Facts) (hDwQkvRefIdeal : Cert.DwQkvRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hLn : Cert.Ln.Facts) (hLnIdeal : Cert.LnIdeal.Facts) (hLnRefIdeal : Cert.LnRefIdeal.Facts) (hPre_finite_scales : Cert.Pre_finite_scales.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhIdeal_pre_finite_scales (hDhIdeal := hDhIdeal) (hPre_finite_scales := hPre_finite_scales)
    ∧ quiescent_DhRefIdeal (hDhRefIdeal := hDhRefIdeal)
    ∧ quiescent_DhRefIdeal_pre_finite_scales (hDhRefIdeal := hDhRefIdeal) (hPre_finite_scales := hPre_finite_scales)
    ∧ quiescent_Ln (hLn := hLn)
    ∧ quiescent_LnIdeal (hLnIdeal := hLnIdeal)
    ∧ quiescent_LnRefIdeal (hLnRefIdeal := hLnRefIdeal)
    ∧ preserves_DwOut_DwOutIdeal
    ∧ algebraic_DwOutIdeal_DwOutRefIdeal (hDwOutIdeal := hDwOutIdeal) (hDwOutRefIdeal := hDwOutRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal_pre_finite_scales (hDhIdeal := hDhIdeal) (hDhRefIdeal := hDhRefIdeal) (hPre_finite_scales := hPre_finite_scales)
    ∧ preserves_Ln_LnIdeal
    ∧ algebraic_LnIdeal_LnRefIdeal (hLnIdeal := hLnIdeal) (hLnRefIdeal := hLnRefIdeal)
-- ==== Pre_finite_scales.lean ====
abbrev S2x8192x11008 : Shape := ⟨3, ![2, 8192, 11008]⟩
abbrev S1x8192 : Shape := ⟨2, ![1, 8192]⟩
abbrev S1x8192x3x32x128 : Shape := ⟨5, ![1, 8192, 3, 32, 128]⟩
abbrev S4096x2x11008 : Shape := ⟨3, ![4096, 2, 11008]⟩
abbrev S2x11008 : Shape := ⟨2, ![2, 11008]⟩
abbrev S4096x3x32x128 : Shape := ⟨4, ![4096, 3, 32, 128]⟩
abbrev S3x32x128 : Shape := ⟨3, ![3, 32, 128]⟩
abbrev S_ : Shape := ⟨0, ![]⟩

class Facts : Prop where
  bcast_S_S1x8192 : S_.BroadcastsInDim S1x8192 (![] : Fin 0 → Fin S1x8192.rank)

variable [Facts]

def fn {F : FTy → Type} [FloatOps F] (main_arg0 : FVec F S2x8192x11008 .fp8e5m2) (main_arg1 : FVec F S1x8192 .f32) (main_arg2 : FVec F S1x8192x3x32x128 .fp8e5m2) (main_arg3 : FVec F S1x8192 .f32) (main_arg4 : FVec F S4096x2x11008 .fp8e4m3) (main_arg5 : FVec F S2x11008 .f32) (main_arg6 : FVec F S4096x3x32x128 .fp8e4m3) (main_arg7 : FVec F S3x32x128 .f32) : IVec S1x8192 1 :=
  let main_cst : FVec F S_ .f32 := constant S_ .f32 0x00000000#32
  let main_v0 : FVec F S1x8192 .f32 := broadcastInDim S1x8192 ![] bcast_S_S1x8192 main_cst
  let main_v1 : IVec S1x8192 1 := cmpf .oge main_arg1 main_v0
  let main_cst_0 : FVec F S_ .f32 := constant S_ .f32 0x7F800000#32
  let main_v2 : FVec F S1x8192 .f32 := broadcastInDim S1x8192 ![] bcast_S_S1x8192 main_cst_0
  let main_v3 : IVec S1x8192 1 := cmpf .olt main_arg1 main_v2
  let main_v4 : IVec S1x8192 1 := andi main_v1 main_v3
  let main_cst_1 : FVec F S_ .f32 := constant S_ .f32 0x00000000#32
  let main_v5 : FVec F S1x8192 .f32 := broadcastInDim S1x8192 ![] bcast_S_S1x8192 main_cst_1
  let main_v6 : IVec S1x8192 1 := cmpf .oge main_arg3 main_v5
  let main_cst_2 : FVec F S_ .f32 := constant S_ .f32 0x7F800000#32
  let main_v7 : FVec F S1x8192 .f32 := broadcastInDim S1x8192 ![] bcast_S_S1x8192 main_cst_2
  let main_v8 : IVec S1x8192 1 := cmpf .olt main_arg3 main_v7
  let main_v9 : IVec S1x8192 1 := andi main_v6 main_v8
  let main_v10 : IVec S1x8192 1 := andi main_v4 main_v9
  main_v10
-- ==== DwOut.lean ====
abbrev S1x8192x4096 : Shape := ⟨3, ![1, 8192, 4096]⟩
abbrev S1x8192 : Shape := ⟨2, ![1, 8192]⟩
abbrev S1x8192x11008 : Shape := ⟨3, ![1, 8192, 11008]⟩
abbrev S8192x4096 : Shape := ⟨2, ![8192, 4096]⟩
abbrev S4096x8192 : Shape := ⟨2, ![4096, 8192]⟩
abbrev S1024x1024 : Shape := ⟨2, ![1024, 1024]⟩
abbrev S1x1024 : Shape := ⟨2, ![1, 1024]⟩
abbrev S8192x11008 : Shape := ⟨2, ![8192, 11008]⟩
abbrev S11008x4096 : Shape := ⟨2, ![11008, 4096]⟩
abbrev S1024x8192 : Shape := ⟨2, ![1024, 8192]⟩
abbrev S8192x256 : Shape := ⟨2, ![8192, 256]⟩
abbrev S256x1024 : Shape := ⟨2, ![256, 1024]⟩
abbrev S1024x256 : Shape := ⟨2, ![1024, 256]⟩

abbrev nBuf : Space → Nat
  | .hbm => 9
  | .vmem => 12
  | .smem => 0
  | _ => 0

abbrev bufTy : (tb : Table) → Fin (tcTables nBuf tb) → BufTy
  | .hbm, ⟨0, _⟩ => ⟨S1x8192x4096, .fp8e5m2⟩
  | .hbm, ⟨1, _⟩ => ⟨S1x8192, .f32⟩
  | .hbm, ⟨2, _⟩ => ⟨S1x8192x11008, .fp8e4m3⟩
  | .hbm, ⟨3, _⟩ => ⟨S1x8192, .f32⟩
  | .hbm, ⟨4, _⟩ => ⟨S8192x4096, .fp8e5m2⟩
  | .hbm, ⟨5, _⟩ => ⟨S1x8192, .f32⟩
  | .hbm, ⟨6, _⟩ => ⟨S4096x8192, .bf16⟩
  | .hbm, ⟨7, _⟩ => ⟨S8192x11008, .fp8e4m3⟩
  | .hbm, ⟨8, _⟩ => ⟨S11008x4096, .bf16⟩
  | .local _ .vmem, ⟨0, _⟩ => ⟨S1024x1024, .fp8e5m2⟩
  | .local _ .vmem, ⟨1, _⟩ => ⟨S1024x1024, .fp8e5m2⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x8192, .bf16⟩
  | .local _ .vmem, ⟨7, _⟩ => ⟨S1024x8192, .bf16⟩
  | .local _ .vmem, ⟨8, _⟩ => ⟨S8192x256, .fp8e4m3⟩
  | .local _ .vmem, ⟨9, _⟩ => ⟨S8192x256, .fp8e4m3⟩
  | .local _ .vmem, ⟨10, _⟩ => ⟨S256x1024, .bf16⟩
  | .local _ .vmem, ⟨11, _⟩ => ⟨S256x1024, .bf16⟩
  | _, _ => ⟨S1x8192x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== DwOutRefIdeal.lean ====
abbrev S1x8192x4096 : Shape := ⟨3, ![1, 8192, 4096]⟩
abbrev S1x8192 : Shape := ⟨2, ![1, 8192]⟩
abbrev S1x8192x11008 : Shape := ⟨3, ![1, 8192, 11008]⟩
abbrev S11008x4096 : Shape := ⟨2, ![11008, 4096]⟩
abbrev S8192x11008 : Shape := ⟨2, ![8192, 11008]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x4096, .fp8e5m2⟩
  | .hbm, ⟨1, _⟩ => ⟨S1x8192, .f32⟩
  | .hbm, ⟨2, _⟩ => ⟨S1x8192x11008, .fp8e4m3⟩
  | .hbm, ⟨3, _⟩ => ⟨S1x8192, .f32⟩
  | .hbm, ⟨4, _⟩ => ⟨S11008x4096, .bf16⟩
  | .local _ .vmem, ⟨0, _⟩ => ⟨S1x8192x11008, .fp8e4m3⟩
  | .local _ .vmem, ⟨1, _⟩ => ⟨S1x8192, .f32⟩
  | .local _ .vmem, ⟨2, _⟩ => ⟨S1x8192x4096, .fp8e5m2⟩
  | .local _ .vmem, ⟨3, _⟩ => ⟨S1x8192, .f32⟩
  | .local _ .vmem, ⟨4, _⟩ => ⟨S11008x4096, .bf16⟩
  | _, _ => ⟨S1x8192x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x8192x11008 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S1x8192x4096 : Shape := ⟨3, ![1, 8192, 4096]⟩
abbrev S1x8192 : Shape := ⟨2, ![1, 8192]⟩
abbrev S1x8192x3x32x128 : Shape := ⟨5, ![1, 8192, 3, 32, 128]⟩
abbrev S4096 : Shape := ⟨1, ![4096]⟩
abbrev S4096x1 : Shape := ⟨2, ![4096, 1]⟩
abbrev S4096x256 : Shape := ⟨2, ![4096, 256]⟩
abbrev S8192x12288 : Shape := ⟨2, ![8192, 12288]⟩
abbrev S8192x4096 : Shape := ⟨2, ![8192, 4096]⟩
abbrev S4096x8192 : Shape := ⟨2, ![4096, 8192]⟩
abbrev S1024x1024 : Shape := ⟨2, ![1024, 1024]⟩
abbrev S1x1024 : Shape := ⟨2, ![1, 1024]⟩
abbrev S4096x12288 : Shape := ⟨2, ![4096, 12288]⟩
abbrev S1024x8192 : Shape := ⟨2, ![1024, 8192]⟩
abbrev S8192x512 : Shape := ⟨2, ![8192, 512]⟩
abbrev S1024x256 : Shape := ⟨2, ![1024, 256]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192, .f32⟩
  | .hbm, ⟨2, _⟩ => ⟨S1x8192x3x32x128, .fp8e5m2⟩
  | .hbm, ⟨3, _⟩ => ⟨S1x8192, .f32⟩
  | .hbm, ⟨4, _⟩ => ⟨S4096, .f32⟩
  | .hbm, ⟨5, _⟩ => ⟨S4096x1, .f32⟩
  | .hbm, ⟨6, _⟩ => ⟨S4096x256, .f32⟩
  | .hbm, ⟨7, _⟩ => ⟨S8192x12288, .fp8e5m2⟩
  | .hbm, ⟨8, _⟩ => ⟨S8192x4096, .fp8e4m3⟩
  | .hbm, ⟨9, _⟩ => ⟨S1x8192, .f32⟩
  | .hbm, ⟨10, _⟩ => ⟨S4096x8192, .bf16⟩
  | .hbm, ⟨11, _⟩ => ⟨S4096x12288, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x8192, .bf16⟩
  | .local _ .vmem, ⟨7, _⟩ => ⟨S1024x8192, .bf16⟩
  | .local _ .vmem, ⟨8, _⟩ => ⟨S8192x512, .fp8e5m2⟩
  | .local _ .vmem, ⟨9, _⟩ => ⟨S8192x512, .fp8e5m2⟩
  | .local _ .vmem, ⟨10, _⟩ => ⟨S1024x256, .f32⟩
  | .local _ .vmem, ⟨11, _⟩ => ⟨S1024x256, .f32⟩
  | .local _ .vmem, ⟨12, _⟩ => ⟨S1024x512, .bf16⟩
  | .local _ .vmem, ⟨13, _⟩ => ⟨S1024x512, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x512 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== DwQkvRefIdeal.lean ====
abbrev S1x8192x4096 : Shape := ⟨3, ![1, 8192, 4096]⟩
abbrev S1x8192 : Shape := ⟨2, ![1, 8192]⟩
abbrev S1x8192x3x32x128 : Shape := ⟨5, ![1, 8192, 3, 32, 128]⟩
abbrev S4096 : Shape := ⟨1, ![4096]⟩
abbrev S8192x12288 : Shape := ⟨2, ![8192, 12288]⟩
abbrev S4096x1 : Shape := ⟨2, ![4096, 1]⟩
abbrev S4096x12288 : Shape := ⟨2, ![4096, 12288]⟩
abbrev S8192x4096 : Shape := ⟨2, ![8192, 4096]⟩
abbrev S8192 : Shape := ⟨1, ![8192]⟩
abbrev S8192x1 : Shape := ⟨2, ![8192, 1]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192, .f32⟩
  | .hbm, ⟨2, _⟩ => ⟨S1x8192x3x32x128, .fp8e5m2⟩
  | .hbm, ⟨3, _⟩ => ⟨S1x8192, .f32⟩
  | .hbm, ⟨4, _⟩ => ⟨S4096, .f32⟩
  | .hbm, ⟨5, _⟩ => ⟨S8192x12288, .fp8e5m2⟩
  | .hbm, ⟨6, _⟩ => ⟨S4096x1, .f32⟩
  | .hbm, ⟨7, _⟩ => ⟨S4096x12288, .bf16⟩
  | .local _ .vmem, ⟨0, _⟩ => ⟨S1x8192x4096, .fp8e4m3⟩
  | .local _ .vmem, ⟨1, _⟩ => ⟨S1x8192, .f32⟩
  | .local _ .vmem, ⟨2, _⟩ => ⟨S8192x12288, .fp8e5m2⟩
  | .local _ .vmem, ⟨3, _⟩ => ⟨S1x8192, .f32⟩
  | .local _ .vmem, ⟨4, _⟩ => ⟨S4096x1, .f32⟩
  | .local _ .vmem, ⟨5, _⟩ => ⟨S4096x12288, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x12288 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwIn.lean ====
abbrev S1x8192x4096 : Shape := ⟨3, ![1, 8192, 4096]⟩
abbrev S1x8192 : Shape := ⟨2, ![1, 8192]⟩
abbrev S2x8192x11008 : Shape := ⟨3, ![2, 8192, 11008]⟩
abbrev S4096 : Shape := ⟨1, ![4096]⟩
abbrev S4096x1 : Shape := ⟨2, ![4096, 1]⟩
abbrev S4096x256 : Shape := ⟨2, ![4096, 256]⟩
abbrev S8192x4096 : Shape := ⟨2, ![8192, 4096]⟩
abbrev S4096x8192 : Shape := ⟨2, ![4096, 8192]⟩
abbrev S1024x1024 : Shape := ⟨2, ![1024, 1024]⟩
abbrev S1x1024 : Shape := ⟨2, ![1, 1024]⟩
abbrev S2x4096x11008 : Shape := ⟨3, ![2, 4096, 11008]⟩
abbrev S1024x8192 : Shape := ⟨2, ![1024, 8192]⟩
abbrev S2x8192x256 : Shape := ⟨3, ![2, 8192, 256]⟩
abbrev S1024x256 : Shape := ⟨2, ![1024, 256]⟩
abbrev S2x1024x256 : Shape := ⟨3, ![2, 1024, 256]⟩
abbrev S1x8192x256 : Shape := ⟨3, ![1, 8192, 256]⟩
abbrev S8192x256 : Shape := ⟨2, ![8192, 256]⟩
abbrev S1x1024x256 : Shape := ⟨3, ![1, 1024, 256]⟩

abbrev nBuf : Space → Nat
  | .hbm => 11
  | .vmem => 14
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192, .f32⟩
  | .hbm, ⟨2, _⟩ => ⟨S2x8192x11008, .fp8e5m2⟩
  | .hbm, ⟨3, _⟩ => ⟨S1x8192, .f32⟩
  | .hbm, ⟨4, _⟩ => ⟨S4096, .f32⟩
  | .hbm, ⟨5, _⟩ => ⟨S4096x1, .f32⟩
  | .hbm, ⟨6, _⟩ => ⟨S4096x256, .f32⟩
  | .hbm, ⟨7, _⟩ => ⟨S8192x4096, .fp8e4m3⟩
  | .hbm, ⟨8, _⟩ => ⟨S1x8192, .f32⟩
  | .hbm, ⟨9, _⟩ => ⟨S4096x8192, .bf16⟩
  | .hbm, ⟨10, _⟩ => ⟨S2x4096x11008, .bf16⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x8192, .bf16⟩
  | .local _ .vmem, ⟨7, _⟩ => ⟨S1024x8192, .bf16⟩
  | .local _ .vmem, ⟨8, _⟩ => ⟨S2x8192x256, .fp8e5m2⟩
  | .local _ .vmem, ⟨9, _⟩ => ⟨S2x8192x256, .fp8e5m2⟩
  | .local _ .vmem, ⟨10, _⟩ => ⟨S1024x256, .f32⟩
  | .local _ .vmem, ⟨11, _⟩ => ⟨S1024x256, .f32⟩
  | .local _ .vmem, ⟨12, _⟩ => ⟨S2x1024x256, .bf16⟩
  | .local _ .vmem, ⟨13, _⟩ => ⟨S2x1024x256, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x8192x256 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== DwInRefIdeal.lean ====
abbrev S1x8192x4096 : Shape := ⟨3, ![1, 8192, 4096]⟩
abbrev S1x8192 : Shape := ⟨2, ![1, 8192]⟩
abbrev S2x8192x11008 : Shape := ⟨3, ![2, 8192, 11008]⟩
abbrev S4096 : Shape := ⟨1, ![4096]⟩
abbrev S4096x1 : Shape := ⟨2, ![4096, 1]⟩
abbrev S2x4096x11008 : Shape := ⟨3, ![2, 4096, 11008]⟩
abbrev S8192x4096 : Shape := ⟨2, ![8192, 4096]⟩
abbrev S8192 : Shape := ⟨1, ![8192]⟩
abbrev S8192x1 : Shape := ⟨2, ![8192, 1]⟩
abbrev S1x8192x11008 : Shape := ⟨3, ![1, 8192, 11008]⟩
abbrev S8192x11008 : Shape := ⟨2, ![8192, 11008]⟩
abbrev S4096x11008 : Shape := ⟨2, ![4096, 11008]⟩
abbrev S1x4096x11008 : Shape := ⟨3, ![1, 4096, 11008]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192, .f32⟩
  | .hbm, ⟨2, _⟩ => ⟨S2x8192x11008, .fp8e5m2⟩
  | .hbm, ⟨3, _⟩ => ⟨S1x8192, .f32⟩
  | .hbm, ⟨4, _⟩ => ⟨S4096, .f32⟩
  | .hbm, ⟨5, _⟩ => ⟨S4096x1, .f32⟩
  | .hbm, ⟨6, _⟩ => ⟨S2x4096x11008, .bf16⟩
  | .local _ .vmem, ⟨0, _⟩ => ⟨S1x8192x4096, .fp8e4m3⟩
  | .local _ .vmem, ⟨1, _⟩ => ⟨S1x8192, .f32⟩
  | .local _ .vmem, ⟨2, _⟩ => ⟨S2x8192x11008, .fp8e5m2⟩
  | .local _ .vmem, ⟨3, _⟩ => ⟨S1x8192, .f32⟩
  | .local _ .vmem, ⟨4, _⟩ => ⟨S4096x1, .f32⟩
  | .local _ .vmem, ⟨5, _⟩ => ⟨S2x4096x11008, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x11008 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dh.lean ====
abbrev S2x8192x11008 : Shape := ⟨3, ![2, 8192, 11008]⟩
abbrev S1x8192 : Shape := ⟨2, ![1, 8192]⟩
abbrev S1x8192x3x32x128 : Shape := ⟨5, ![1, 8192, 3, 32, 128]⟩
abbrev S4096x2x11008 : Shape := ⟨3, ![4096, 2, 11008]⟩
abbrev S2x11008 : Shape := ⟨2, ![2, 11008]⟩
abbrev S4096x3x32x128 : Shape := ⟨4, ![4096, 3, 32, 128]⟩
abbrev S3x32x128 : Shape := ⟨3, ![3, 32, 128]⟩
abbrev S2x4096x11008 : Shape := ⟨3, ![2, 4096, 11008]⟩
abbrev S8192x12288 : Shape := ⟨2, ![8192, 12288]⟩
abbrev S4096x12288 : Shape := ⟨2, ![4096, 12288]⟩
abbrev S1x12288 : Shape := ⟨2, ![1, 12288]⟩
abbrev S8192x4096 : Shape := ⟨2, ![8192, 4096]⟩
abbrev S2x1024x256 : Shape := ⟨3, ![2, 1024, 256]⟩
abbrev S2x4096x256 : Shape := ⟨3, ![2, 4096, 256]⟩
abbrev S2x256 : Shape := ⟨2, ![2, 256]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S1024x4096 : Shape := ⟨2, ![1024, 4096]⟩
abbrev S1024x256 : Shape := ⟨2, ![1024, 256]⟩
abbrev S256x1024 : Shape := ⟨2, ![256, 1024]⟩
abbrev S1x1024x256 : Shape := ⟨3, ![1, 1024, 256]⟩
abbrev S1x256 : Shape := ⟨2, ![1, 256]⟩
abbrev S1x4096x256 : Shape := ⟨3, ![1, 4096, 256]⟩
abbrev S4096x256 : Shape := ⟨2, ![4096, 256]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x11008, .fp8e5m2⟩
  | .hbm, ⟨1, _⟩ => ⟨S1x8192, .f32⟩
  | .hbm, ⟨2, _⟩ => ⟨S1x8192x3x32x128, .fp8e5m2⟩
  | .hbm, ⟨3, _⟩ => ⟨S1x8192, .f32⟩
  | .hbm, ⟨4, _⟩ => ⟨S4096x2x11008, .fp8e4m3⟩
  | .hbm, ⟨5, _⟩ => ⟨S2x11008, .f32⟩
  | .hbm, ⟨6, _⟩ => ⟨S4096x3x32x128, .fp8e4m3⟩
  | .hbm, ⟨7, _⟩ => ⟨S3x32x128, .f32⟩
  | .hbm, ⟨8, _⟩ => ⟨S2x4096x11008, .fp8e4m3⟩
  | .hbm, ⟨9, _⟩ => ⟨S8192x12288, .fp8e5m2⟩
  | .hbm, ⟨10, _⟩ => ⟨S4096x12288, .fp8e4m3⟩
  | .hbm, ⟨11, _⟩ => ⟨S1x12288, .f32⟩
  | .hbm, ⟨12, _⟩ => ⟨S8192x4096, .f32⟩
  | .local _ .vmem, ⟨0, _⟩ => ⟨S2x1024x256, .fp8e5m2⟩
  | .local _ .vmem, ⟨1, _⟩ => ⟨S2x1024x256, .fp8e5m2⟩
  | .local _ .vmem, ⟨2, _⟩ => ⟨S2x4096x256, .fp8e4m3⟩
  | .local _ .vmem, ⟨3, _⟩ => ⟨S2x4096x256, .fp8e4m3⟩
  | .local _ .vmem, ⟨4, _⟩ => ⟨S2x256, .f32⟩
  | .local _ .vmem, ⟨5, _⟩ => ⟨S2x256, .f32⟩
  | .local _ .vmem, ⟨6, _⟩ => ⟨S1x1024, .f32⟩
  | .local _ .vmem, ⟨7, _⟩ => ⟨S1x1024, .f32⟩
  | .local _ .vmem, ⟨8, _⟩ => ⟨S1024x512, .fp8e5m2⟩
  | .local _ .vmem, ⟨9, _⟩ => ⟨S1024x512, .fp8e5m2⟩
  | .local _ .vmem, ⟨10, _⟩ => ⟨S4096x512, .fp8e4m3⟩
  | .local _ .vmem, ⟨11, _⟩ => ⟨S4096x512, .fp8e4m3⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1024x4096, .f32⟩
  | .local _ .vmem, ⟨17, _⟩ => ⟨S1024x4096, .f32⟩
  | .local _ .vmem, ⟨18, _⟩ => ⟨S1024x256, .bf16⟩
  | .local _ .vmem, ⟨19, _⟩ => ⟨S1024x256, .bf16⟩
  | _, _ => ⟨S2x8192x11008, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 67], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c43_i32 : BitVec 32 := 43#32
  let v3 : BitVec 1 := Scalar.cmpi .slt arg1 c43_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c43_i32_2 : BitVec 32 := 43#32
  let v6 : BitVec 1 := Scalar.cmpi .sge arg1 c43_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, arg0.toNat, v0.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.subi arg1 c43_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.subi arg1 c43_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.subi arg1 c43_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DhRefIdeal.lean ====
abbrev S2x8192x11008 : Shape := ⟨3, ![2, 8192, 11008]⟩
abbrev S1x8192 : Shape := ⟨2, ![1, 8192]⟩
abbrev S1x8192x3x32x128 : Shape := ⟨5, ![1, 8192, 3, 32, 128]⟩
abbrev S4096x2x11008 : Shape := ⟨3, ![4096, 2, 11008]⟩
abbrev S2x11008 : Shape := ⟨2, ![2, 11008]⟩
abbrev S4096x3x32x128 : Shape := ⟨4, ![4096, 3, 32, 128]⟩
abbrev S3x32x128 : Shape := ⟨3, ![3, 32, 128]⟩
abbrev S8192x12288 : Shape := ⟨2, ![8192, 12288]⟩
abbrev S4096x12288 : Shape := ⟨2, ![4096, 12288]⟩
abbrev S1x12288 : Shape := ⟨2, ![1, 12288]⟩
abbrev S8192x4096 : Shape := ⟨2, ![8192, 4096]⟩
abbrev S4096x1x11008 : Shape := ⟨3, ![4096, 1, 11008]⟩
abbrev S4096x11008 : Shape := ⟨2, ![4096, 11008]⟩
abbrev S1x11008 : Shape := ⟨2, ![1, 11008]⟩
abbrev S11008 : Shape := ⟨1, ![11008]⟩
abbrev S1x8192x11008 : Shape := ⟨3, ![1, 8192, 11008]⟩
abbrev S8192x11008 : Shape := ⟨2, ![8192, 11008]⟩
abbrev S8192 : Shape := ⟨1, ![8192]⟩
abbrev S8192x1 : Shape := ⟨2, ![8192, 1]⟩
abbrev S12288 : Shape := ⟨1, ![12288]⟩

abbrev nBuf : Space → Nat
  | .hbm => 12
  | .vmem => 9
  | .smem => 0
  | _ => 0

abbrev bufTy : (tb : Table) → Fin (tcTables nBuf tb) → BufTy
  | .hbm, ⟨0, _⟩ => ⟨S2x8192x11008, .fp8e5m2⟩
  | .hbm, ⟨1, _⟩ => ⟨S1x8192, .f32⟩
  | .hbm, ⟨2, _⟩ => ⟨S1x8192x3x32x128, .fp8e5m2⟩
  | .hbm, ⟨3, _⟩ => ⟨S1x8192, .f32⟩
  | .hbm, ⟨4, _⟩ => ⟨S4096x2x11008, .fp8e4m3⟩
  | .hbm, ⟨5, _⟩ => ⟨S2x11008, .f32⟩
  | .hbm, ⟨6, _⟩ => ⟨S4096x3x32x128, .fp8e4m3⟩
  | .hbm, ⟨7, _⟩ => ⟨S3x32x128, .f32⟩
  | .hbm, ⟨8, _⟩ => ⟨S8192x12288, .fp8e5m2⟩
  | .hbm, ⟨9, _⟩ => ⟨S4096x12288, .fp8e4m3⟩
  | .hbm, ⟨10, _⟩ => ⟨S1x12288, .f32⟩
  | .hbm, ⟨11, _⟩ => ⟨S8192x4096, .f32⟩
  | .local _ .vmem, ⟨0, _⟩ => ⟨S2x8192x11008, .fp8e5m2⟩
  | .local _ .vmem, ⟨1, _⟩ => ⟨S1x8192, .f32⟩
  | .local _ .vmem, ⟨2, _⟩ => ⟨S8192x12288, .fp8e5m2⟩
  | .local _ .vmem, ⟨3, _⟩ => ⟨S1x8192, .f32⟩
  | .local _ .vmem, ⟨4, _⟩ => ⟨S4096x2x11008, .fp8e4m3⟩
  | .local _ .vmem, ⟨5, _⟩ => ⟨S2x11008, .f32⟩
  | .local _ .vmem, ⟨6, _⟩ => ⟨S4096x12288, .fp8e4m3⟩
  | .local _ .vmem, ⟨7, _⟩ => ⟨S1x12288, .f32⟩
  | .local _ .vmem, ⟨8, _⟩ => ⟨S8192x4096, .f32⟩
  | _, _ => ⟨S2x8192x11008, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8192x11008 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x12288 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x12288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Ln.lean ====
abbrev S8192x4096 : Shape := ⟨2, ![8192, 4096]⟩
abbrev S1x8192x4096 : Shape := ⟨3, ![1, 8192, 4096]⟩
abbrev S1x8192 : Shape := ⟨2, ![1, 8192]⟩
abbrev S4096 : Shape := ⟨1, ![4096]⟩
abbrev S8192x1 : Shape := ⟨2, ![8192, 1]⟩
abbrev S1x4096 : Shape := ⟨2, ![1, 4096]⟩
abbrev S256x4096 : Shape := ⟨2, ![256, 4096]⟩
abbrev S256x1 : Shape := ⟨2, ![256, 1]⟩
abbrev S256 : Shape := ⟨1, ![256]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S1x8192x4096, .fp8e4m3⟩
  | .hbm, ⟨2, _⟩ => ⟨S1x8192, .f32⟩
  | .hbm, ⟨3, _⟩ => ⟨S1x8192, .f32⟩
  | .hbm, ⟨4, _⟩ => ⟨S1x8192x4096, .fp8e5m2⟩
  | .hbm, ⟨5, _⟩ => ⟨S1x8192, .f32⟩
  | .hbm, ⟨6, _⟩ => ⟨S4096, .f32⟩
  | .hbm, ⟨7, _⟩ => ⟨S8192x4096, .fp8e4m3⟩
  | .hbm, ⟨8, _⟩ => ⟨S8192x4096, .fp8e5m2⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S1x4096, .f32⟩
  | .hbm, ⟨13, _⟩ => ⟨S8192x4096, .bf16⟩
  | .hbm, ⟨14, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .fp8e4m3⟩
  | .local _ .vmem, ⟨3, _⟩ => ⟨S256x4096, .fp8e4m3⟩
  | .local _ .vmem, ⟨4, _⟩ => ⟨S256x4096, .fp8e5m2⟩
  | .local _ .vmem, ⟨5, _⟩ => ⟨S256x4096, .fp8e5m2⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S1x4096, .f32⟩
  | .local _ .vmem, ⟨13, _⟩ => ⟨S256x4096, .bf16⟩
  | .local _ .vmem, ⟨14, _⟩ => ⟨S256x4096, .bf16⟩
  | .local _ .vmem, ⟨15, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnRefIdeal.lean ====
abbrev S8192x4096 : Shape := ⟨2, ![8192, 4096]⟩
abbrev S1x8192x4096 : Shape := ⟨3, ![1, 8192, 4096]⟩
abbrev S1x8192 : Shape := ⟨2, ![1, 8192]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x8192x4096, .fp8e4m3⟩
  | .hbm, ⟨2, _⟩ => ⟨S1x8192, .f32⟩
  | .hbm, ⟨3, _⟩ => ⟨S1x8192, .f32⟩
  | .hbm, ⟨4, _⟩ => ⟨S1x8192x4096, .fp8e5m2⟩
  | .hbm, ⟨5, _⟩ => ⟨S1x8192, .f32⟩
  | .hbm, ⟨6, _⟩ => ⟨S4096, .f32⟩
  | .hbm, ⟨7, _⟩ => ⟨S1x4096, .f32⟩
  | .hbm, ⟨8, _⟩ => ⟨S8192x4096, .bf16⟩
  | .hbm, ⟨9, _⟩ => ⟨S1x4096, .f32⟩
  | .local _ .vmem, ⟨0, _⟩ => ⟨S8192x4096, .f32⟩
  | .local _ .vmem, ⟨1, _⟩ => ⟨S1x8192x4096, .fp8e4m3⟩
  | .local _ .vmem, ⟨2, _⟩ => ⟨S1x8192, .f32⟩
  | .local _ .vmem, ⟨3, _⟩ => ⟨S1x8192, .f32⟩
  | .local _ .vmem, ⟨4, _⟩ => ⟨S1x8192x4096, .fp8e5m2⟩
  | .local _ .vmem, ⟨5, _⟩ => ⟨S1x8192, .f32⟩
  | .local _ .vmem, ⟨6, _⟩ => ⟨S1x4096, .f32⟩
  | .local _ .vmem, ⟨7, _⟩ => ⟨S8192x4096, .bf16⟩
  | .local _ .vmem, ⟨8, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192x4096 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DwOutRun.lean ====
/-
  The run of `DwOutIdeal` with its result array named (hand-written, untrusted): the generated frame run
  (Proof/Gen/DwOutIdeal/Frame.lean `frame`), its last thread state read at the result as well as at the arguments.
-/
module

public import proofs.«01_k».proof.Proof.Gen.DwOutIdeal.Frame

@[expose] public section

noncomputable section

namespace Cert.DwOutIdeal.Hand

open Cert.DwOutIdeal Cert.DwOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates without fault; afterwards the result array is what the second region's write-backs leave, and every
    argument array is as launched. -/
theorem run : θ_run defs (onTc (τ := τ) (main (F := F))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v4 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.DwOutIdeal.Hand

end
-- ==== Proof.DwOutValue.lean ====
/-
  The value of `DwOutIdeal` (hand-written, untrusted): what each of its two regions leaves in its output array, as one
  function of the arrays the region finds, index by index, and from these the result in terms of the arguments.
-/
module

public import proofs.«01_k».proof.Proof.DwOutRun
public import Idealize.ShloMosaic.Lib.Pipeline.Value
public import Idealize.ShloMosaic.Lib.Pointwise

@[expose] public section

noncomputable section

namespace Cert.DwOutIdeal.Hand

open Cert.DwOutIdeal Cert.DwOutIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-! ## Region 0: the scaled transpose -/

/-- The transpose of `x` with column `s` scaled by `w s`. -/
def xt (x : S8192x4096.Idx → EReal) (w : S1x8192.Idx → EReal) : S4096x8192.Idx → EReal :=
  fun i => x (ix2 (i 1) (i 0)) * w (ix2 0 (i 1))

theorem pay0_apply (x : S1024x1024.Idx → EReal) (w : S1x1024.Idx → EReal) (j : S1024x1024.Idx) :
    (k0_pay1 (F := Ideal) x w : S1024x1024.Idx → EReal) j = x (ix2 (j 1) (j 0)) * w (ix2 0 (j 1)) := by
  pointwise [k0_pay1]

/-- The index maps of region 0: the input's block is the output's, transposed; the scales' moves with its second axis. -/
theorem idx0 : ∀ t : Fin cfg0.N, win0_0.index t (0 : Fin 2) = win0_2.index t (1 : Fin 2)
    ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of region 0's output is some point's. -/
theorem onto0 : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

section
variable (V : (c : Dev nD) → (b : Ref sig .tc) → Buf (Elt Ideal) ((c : Thread nD τ).loc b))

theorem flushed0 (c : Dev nD) (t : Fin cfg0.N) :
    (dat0 V c).flushed 2 t = ((cfg0.win 2).blk t).view.read (Elt Ideal) (xt (V c main_v0) (V c main_v1)) := by
  show (cfg0.win 2).cut (grid0.coords t) ((dat0 V c).after 2 t) = _
  rw [after0_2]
  unfold out0_2
  rw [View.canon_unit_zero hz2, View.ld_unit_zero hz2, View.ld_unit_zero hz2]
  obtain ⟨e0, e1, e2, e3⟩ := idx0 t
  funext j
  refine (pay0_apply _ _ j).trans ?_
  suffices key : ∀ (x : S8192x4096.Idx → EReal) (w : S1x8192.Idx → EReal),
      x (((cfg0.win 0).blk t).view.emb (ix2 (j 1) (j 0))) * w (((cfg0.win 1).blk t).view.emb (ix2 0 (j 1)))
        = xt x w (((cfg0.win 2).blk t).view.emb j) from key (V c main_v0) (V c main_v1)
  intro x w
  unfold xt
  congr 2
  · refine Shape.idx_ext₂ ?_ ?_
    · show win0_0.index t (0 : Fin 2) * 1024 + 1 * (j 1).val = win0_2.index t (1 : Fin 2) * 1024 + 1 * (j 1).val
      omega
    · show win0_0.index t (1 : Fin 2) * 1024 + 1 * (j 0).val = win0_2.index t (0 : Fin 2) * 1024 + 1 * (j 0).val
      omega
  · refine Shape.idx_ext₂ ?_ ?_
    · show win0_1.index t (0 : Fin 2) * 1 + 1 * 0 = 0
      omega
    · show win0_1.index t (1 : Fin 2) * 1024 + 1 * (j 1).val = win0_2.index t (1 : Fin 2) * 1024 + 1 * (j 1).val
      omega

theorem cover0 (i : S4096x8192.Idx) :
    ∃ t : Fin cfg0.N, (cfg0.win 2).flush t = true ∧ i ∈ ((cfg0.win 2).blk t).view.set := by
  have h0 : (i 0 : Nat) < 4096 := (i 0).isLt
  have h1 : (i 1 : Nat) < 8192 := (i 1).isLt
  obtain ⟨t, ht⟩ := onto0 ⟨(i 0 : Nat) / 1024, by omega⟩ ⟨(i 1 : Nat) / 1024, by omega⟩
  refine ⟨t, flush0_2 t, ?_⟩
  have e0 : win0_2.index t (0 : Fin 2) = (i 0 : Nat) / 1024 := congrFun ht 0
  have e1 : win0_2.index t (1 : Fin 2) = (i 1 : Nat) / 1024 := congrFun ht 1
  show i ∈ ((View.whole main_v2).slice (win0_2.rect t)).set
  rw [View.set_slice_whole, Rect.mem_set_unit]
  intro a
  match a with
  | ⟨0, _⟩ => show win0_2.index t (0 : Fin 2) * 1024 ≤ (i 0 : Nat) ∧ (i 0 : Nat) < win0_2.index t (0 : Fin 2) * 1024 + 1024
              omega
  | ⟨1, _⟩ => show win0_2.index t (1 : Fin 2) * 1024 ≤ (i 1 : Nat) ∧ (i 1 : Nat) < win0_2.index t (1 : Fin 2) * 1024 + 1024
              omega

/-- Region 0 leaves the scaled transpose of the arrays it finds. -/
theorem final0 (c : Dev nD) : (dat0 V c).arrAt 2 cfg0.N = xt (V c main_v0) (V c main_v1) :=
  (dat0 V c).arrAt_eq_of_cover 2 (xt (V c main_v0) (V c main_v1)) (fun t _ => flushed0 V c t) cover0

/-! ## Region 1: the product -/

/-- The product of `y` and `g` over the rows of `g`, transposed. -/
def prod (y : S4096x8192.Idx → EReal) (g : S8192x11008.Idx → EReal) : S11008x4096.Idx → EReal :=
  fun i => ∑ k : Fin 8192, y (ix2 (i 1) k) * g (ix2 k (i 0))

theorem pay1_apply (y : S1024x8192.Idx → EReal) (g : S8192x256.Idx → EReal) (j : S256x1024.Idx) :
    (k1_pay1 (F := Ideal) y g : S256x1024.Idx → EReal) j = ∑ k : Fin 8192, y (ix2 (j 1) k) * g (ix2 k (j 0)) := by
  pointwise [k1_pay1, dot_S1024x8192_S8192x256_S1024x256_1_0_0_1_n_n]

theorem idx1 : ∀ t : Fin cfg1.N, win1_0.index t (0 : Fin 2) = win1_2.index t (1 : Fin 2)
    ∧ win1_0.index t (1 : Fin 2) = 0
    ∧ win1_1.index t (0 : Fin 2) = 0 ∧ win1_1.index t (1 : Fin 2) = win1_2.index t (0 : Fin 2) :=
  (by decide +kernel : ∀ t : Fin grid1.N, _)

/-- Every block of region 1's output is some point's. -/
theorem onto1 : ∀ (a : Fin 43) (b : Fin 4), ∃ t : Fin cfg1.N, win1_2.index t = ![a.val, b.val] :=
  (by decide +kernel : ∀ (a : Fin 43) (b : Fin 4), ∃ t : Fin grid1.N, win1_2.index t = ![a.val, b.val])

/-- Reading an array through region 1's output block, at an index. -/
theorem read1 (G : S11008x4096.Idx → EReal) (t : Fin cfg1.N) (j : S256x1024.Idx) :
    ((cfg1.win 2).blk t).view.read (Elt Ideal) G j = G (((cfg1.win 2).blk t).view.emb j) := rfl

theorem flushed1 (c : Dev nD) (t : Fin cfg1.N) :
    (dat1 V c).flushed 2 t = ((cfg1.win 2).blk t).view.read (Elt Ideal) (prod (V c main_v2) (V c main_v3)) := by
  show (cfg1.win 2).cut (grid1.coords t) ((dat1 V c).after 2 t) = _
  rw [after1_2]
  unfold out1_2
  rw [View.canon_unit_zero hz2, View.ld_unit_zero hz2, View.ld_unit_zero hz2]
  obtain ⟨e0, e1, e2, e3⟩ := idx1 t
  funext (j : S256x1024.Idx)
  refine (pay1_apply _ _ j).trans ?_
  have ey (k : Fin 8192) : ((cfg1.win 0).blk t).view.emb (ix2 (j 1) k : S1024x8192.Idx)
      = (ix2 ((((cfg1.win 2).blk t).view.emb j : S11008x4096.Idx) 1) k : S4096x8192.Idx) := by
    refine Shape.idx_ext₂ ?_ ?_
    · show win1_0.index t (0 : Fin 2) * 1024 + 1 * (j 1).val = win1_2.index t (1 : Fin 2) * 1024 + 1 * (j 1).val
      omega
    · show win1_0.index t (1 : Fin 2) * 8192 + 1 * k.val = k.val
      omega
  have eg (k : Fin 8192) : ((cfg1.win 1).blk t).view.emb (ix2 k (j 0) : S8192x256.Idx)
      = (ix2 k ((((cfg1.win 2).blk t).view.emb j : S11008x4096.Idx) 0) : S8192x11008.Idx) := by
    refine Shape.idx_ext₂ ?_ ?_
    · show win1_1.index t (0 : Fin 2) * 8192 + 1 * k.val = k.val
      omega
    · show win1_1.index t (1 : Fin 2) * 256 + 1 * (j 0).val = win1_2.index t (0 : Fin 2) * 256 + 1 * (j 0).val
      omega
  refine Eq.trans (b := prod (V c main_v2) (V c main_v3) (((cfg1.win 2).blk t).view.emb j)) ?_ (read1 _ t j).symm
  unfold prod
  refine Finset.sum_congr rfl fun k _ => ?_
  exact congrArg₂ (fun a b : EReal => a * b) (congrArg (V c main_v2) (ey k)) (congrArg (V c main_v3) (eg k))

theorem cover1 (i : S11008x4096.Idx) :
    ∃ t : Fin cfg1.N, (cfg1.win 2).flush t = true ∧ i ∈ ((cfg1.win 2).blk t).view.set := by
  have h0 : (i 0 : Nat) < 11008 := (i 0).isLt
  have h1 : (i 1 : Nat) < 4096 := (i 1).isLt
  obtain ⟨t, ht⟩ := onto1 ⟨(i 0 : Nat) / 256, by omega⟩ ⟨(i 1 : Nat) / 1024, by omega⟩
  refine ⟨t, flush1_2 t, ?_⟩
  have e0 : win1_2.index t (0 : Fin 2) = (i 0 : Nat) / 256 := congrFun ht 0
  have e1 : win1_2.index t (1 : Fin 2) = (i 1 : Nat) / 1024 := congrFun ht 1
  show i ∈ ((View.whole main_v4).slice (win1_2.rect t)).set
  rw [View.set_slice_whole, Rect.mem_set_unit]
  intro a
  match a with
  | ⟨0, _⟩ => show win1_2.index t (0 : Fin 2) * 256 ≤ (i 0 : Nat) ∧ (i 0 : Nat) < win1_2.index t (0 : Fin 2) * 256 + 256
              omega
  | ⟨1, _⟩ => show win1_2.index t (1 : Fin 2) * 1024 ≤ (i 1 : Nat) ∧ (i 1 : Nat) < win1_2.index t (1 : Fin 2) * 1024 + 1024
              omega

/-- Region 1 leaves the product of the arrays it finds. -/
theorem final1 (c : Dev nD) : (dat1 V c).arrAt 2 cfg1.N = prod (V c main_v2) (V c main_v3) :=
  (dat1 V c).arrAt_eq_of_cover 2 (prod (V c main_v2) (V c main_v3)) (fun t _ => flushed1 V c t) cover1

end

/-! ## The arrays the regions find -/

variable (m : (ℓ : Loc nD τ sig) → Buf (Elt Ideal) ℓ) (ρ : Dev nD → PrngReg)

theorem V1_v0 (c : Dev nD) : V1 m ρ c main_v0 = shapeCast S8192x4096 (m ((c : Thread nD τ).loc main_arg0)) shapeCasts_S1x8192x4096_S8192x4096 := by
  show StableHlo.after hostOps0 (W0 m ρ c) _ = _
  after_results
  rfl

theorem V1_v1 (c : Dev nD) : V1 m ρ c main_v1 = mulf (F := Ideal) (s := S1x8192) (φ := .f32) (m ((c : Thread nD τ).loc main_arg1)) (m ((c : Thread nD τ).loc main_arg3)) := by
  show StableHlo.after hostOps0 (W0 m ρ c) _ = _
  after_results
  try rfl

theorem V3_v2 (c : Dev nD) : V3 m ρ c main_v2 = xt (V1 m ρ c main_v0) (V1 m ρ c main_v1) :=
  (W3_of m ρ c main_v2 (by decide)).trans ((W2_arr m ρ c 2).trans (final0 (V1 m ρ) c))

theorem V3_v3 (c : Dev nD) : V3 m ρ c main_v3 = shapeCast S8192x11008 (m ((c : Thread nD τ).loc main_arg2)) shapeCasts_S1x8192x11008_S8192x11008 := by
  show StableHlo.after hostOps1 (W2 m ρ c) _ = _
  after_results
  rw [W2_args m ρ c main_arg2 (by decide)]
  try rfl

/-- The result from the argument arrays: at `(f, d)` the sum over the rows `k` of the first codes, times the product of the
    row's two scales, times the second codes. -/
def out (dy : S1x8192x4096.Idx → EReal) (dys : S1x8192.Idx → EReal) (g : S1x8192x11008.Idx → EReal) (gs : S1x8192.Idx → EReal) :
    S11008x4096.Idx → EReal :=
  fun i => ∑ k : Fin 8192, dy (ix3 0 k (i 1)) * (dys (ix2 0 k) * gs (ix2 0 k)) * g (ix3 0 k (i 0))

theorem prod_xt (dy : S1x8192x4096.Idx → EReal) (dys : S1x8192.Idx → EReal) (g : S1x8192x11008.Idx → EReal) (gs : S1x8192.Idx → EReal) :
    prod (xt (shapeCast S8192x4096 dy shapeCasts_S1x8192x4096_S8192x4096) (mulf (F := Ideal) (s := S1x8192) (φ := .f32) dys gs))
      (shapeCast S8192x11008 g shapeCasts_S1x8192x11008_S8192x11008) = out dy dys g gs := by
  funext i
  unfold prod xt out
  refine Finset.sum_congr rfl fun k _ => ?_
  pointwise

/-- The result array the program leaves, from its arguments. -/
theorem value (c : Dev nD) :
    (dat1 (V3 m ρ) c).arrAt 2 cfg1.N = out (m ((c : Thread nD τ).loc main_arg0)) (m ((c : Thread nD τ).loc main_arg1))
      (m ((c : Thread nD τ).loc main_arg2)) (m ((c : Thread nD τ).loc main_arg3)) := by
  rw [final1, V3_v2, V3_v3, V1_v0, V1_v1]
  exact prod_xt _ _ _ _

end Cert.DwOutIdeal.Hand

end
-- ==== Proof.DwOutAlgebra.lean ====
/-
  The algebraic claim of `DwOutIdeal` against `DwOutRefIdeal` (hand-written, untrusted): both results are the same sum, the
  factors of each term in another order.
-/
module

public import proofs.«01_k».proof.Defs
public import proofs.«01_k».proof.Proof.DwOutValue
public import proofs.«01_k».proof.Proof.Gen.DwOutRefIdeal.Value

@[expose] public section

noncomputable section

namespace Cert.DwOutRefIdeal.Hand

open Cert.DwOutRefIdeal Cert.DwOutRefIdeal.Gen
open Idealize.ShloMosaic Idealize.ShloMosaic.TcCoe Idealize.SL.Sem

/-- The reference's payload at an index: the sum over the rows of the products of the two dequantised arrays. -/
theorem pay_apply (g : S1x8192x11008.Idx → EReal) (gs : S1x8192.Idx → EReal) (dy : S1x8192x4096.Idx → EReal) (dys : S1x8192.Idx → EReal)
    (i : S11008x4096.Idx) :
    (k0_pay1 (F := Ideal) g gs dy dys : S11008x4096.Idx → EReal) i
      = ∑ k : Fin 8192, g (ix3 0 k (i 0)) * gs (ix2 0 k) * (dy (ix3 0 k (i 1)) * dys (ix2 0 k)) := by
  pointwise [k0_pay1, dot_S8192x11008_S8192x4096_S11008x4096_0_0_1_1_n_n]

/-- The kernel's result and the reference's are one function of the arguments. -/
theorem out_eq (dy : S1x8192x4096.Idx → EReal) (dys : S1x8192.Idx → EReal) (g : S1x8192x11008.Idx → EReal) (gs : S1x8192.Idx → EReal) :
    Cert.DwOutIdeal.Hand.out dy dys g gs = (k0_pay1 (F := Ideal) g gs dy dys : S11008x4096.Idx → EReal) := by
  funext i
  refine Eq.trans ?_ (pay_apply g gs dy dys i).symm
  unfold Cert.DwOutIdeal.Hand.out
  refine Finset.sum_congr rfl fun k _ => ?_
  ac_rfl

end Cert.DwOutRefIdeal.Hand

namespace Cert.Proof

open Idealize.ShloMosaic Idealize.ShloMosaic.TcCoe Idealize.SL.Sem

/-- From the same arguments the kernel and the reference leave the same array. -/
theorem algebraic_out : Cert.algebraic_DwOutIdeal_DwOutRefIdeal := by
  intro m ρ m' ρ' _ hagree
  refine ⟨_, Cert.DwOutIdeal.Hand.run m ρ, ?_⟩
  refine (θ_run (Cert.DwOutRefIdeal.defs (F := Ideal)) _ _).mono (fun r h c => ?_) (Cert.DwOutRefIdeal.Value.run m' ρ')
  obtain ⟨h, hargs⟩ := h c
  obtain ⟨a0, a1, a2, a3⟩ := hagree c
  refine ⟨h.trans ?_, hargs⟩
  rw [Cert.DwOutIdeal.Hand.value, a0, a1, a2, a3]
  exact (Cert.DwOutRefIdeal.Hand.out_eq _ _ _ _).symm

end Cert.Proof

end
-- ==== Proof.DwQkvRun.lean ====
/-
  The run of `DwQkvIdeal` with its result array named (hand-written, untrusted): the generated frame run
  (Proof/Gen/DwQkvIdeal/Frame.lean `frame`), its last thread state read at the result as well as at the arguments.
-/
module

public import proofs.«01_k».proof.Proof.Gen.DwQkvIdeal.Frame

@[expose] public section

noncomputable section

namespace Cert.DwQkvIdeal.Hand

open Cert.DwQkvIdeal Cert.DwQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates without fault; afterwards the result array is what the second region's write-backs leave, and every
    argument array is as launched. -/
theorem run : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v6 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.DwQkvIdeal.Hand

end
-- ==== Proof.DwQkvValue.lean ====
/-
  The value of `DwQkvIdeal` (hand-written, untrusted): what each of its two regions leaves in its output array, as one
  function of the arrays the region finds, index by index, and from these the result in terms of the arguments.
-/
module

public import proofs.«01_k».proof.Proof.DwQkvRun
public import Idealize.ShloMosaic.Lib.Pipeline.Value
public import Idealize.ShloMosaic.Lib.Pointwise

@[expose] public section

noncomputable section

namespace Cert.DwQkvIdeal.Hand

open Cert.DwQkvIdeal Cert.DwQkvIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-! ## Region 0: the scaled transpose -/

/-- The transpose of `x` with column `s` scaled by `w s`. -/
def xt (x : S8192x4096.Idx → EReal) (w : S1x8192.Idx → EReal) : S4096x8192.Idx → EReal :=
  fun i => x (ix2 (i 1) (i 0)) * w (ix2 0 (i 1))

theorem pay0_apply (x : S1024x1024.Idx → EReal) (w : S1x1024.Idx → EReal) (j : S1024x1024.Idx) :
    (k0_pay1 (F := Ideal) x w : S1024x1024.Idx → EReal) j = x (ix2 (j 1) (j 0)) * w (ix2 0 (j 1)) := by
  pointwise [k0_pay1]

/-- The index maps of region 0: the input's block is the output's, transposed; the scales' moves with its second axis. -/
theorem idx0 : ∀ t : Fin cfg0.N, win0_0.index t (0 : Fin 2) = win0_2.index t (1 : Fin 2)
    ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of region 0's output is some point's. -/
theorem onto0 : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

section
variable (V : (c : Dev nD) → (b : Ref sig .tc) → Buf (Elt Ideal) ((c : Thread nD τ).loc b))

theorem flushed0 (c : Dev nD) (t : Fin cfg0.N) :
    (dat0 V c).flushed 2 t = ((cfg0.win 2).blk t).view.read (Elt Ideal) (xt (V c main_v3) (V c main_v4)) := by
  show (cfg0.win 2).cut (grid0.coords t) ((dat0 V c).after 2 t) = _
  rw [after0_2]
  unfold out0_2
  rw [View.canon_unit_zero hz2, View.ld_unit_zero hz2, View.ld_unit_zero hz2]
  obtain ⟨e0, e1, e2, e3⟩ := idx0 t
  funext j
  refine (pay0_apply _ _ j).trans ?_
  suffices key : ∀ (x : S8192x4096.Idx → EReal) (w : S1x8192.Idx → EReal),
      x (((cfg0.win 0).blk t).view.emb (ix2 (j 1) (j 0))) * w (((cfg0.win 1).blk t).view.emb (ix2 0 (j 1)))
        = xt x w (((cfg0.win 2).blk t).view.emb j) from key (V c main_v3) (V c main_v4)
  intro x w
  unfold xt
  congr 2
  · refine Shape.idx_ext₂ ?_ ?_
    · show win0_0.index t (0 : Fin 2) * 1024 + 1 * (j 1).val = win0_2.index t (1 : Fin 2) * 1024 + 1 * (j 1).val
      omega
    · show win0_0.index t (1 : Fin 2) * 1024 + 1 * (j 0).val = win0_2.index t (0 : Fin 2) * 1024 + 1 * (j 0).val
      omega
  · refine Shape.idx_ext₂ ?_ ?_
    · show win0_1.index t (0 : Fin 2) * 1 + 1 * 0 = 0
      omega
    · show win0_1.index t (1 : Fin 2) * 1024 + 1 * (j 1).val = win0_2.index t (1 : Fin 2) * 1024 + 1 * (j 1).val
      omega

theorem cover0 (i : S4096x8192.Idx) :
    ∃ t : Fin cfg0.N, (cfg0.win 2).flush t = true ∧ i ∈ ((cfg0.win 2).blk t).view.set := by
  have h0 : (i 0 : Nat) < 4096 := (i 0).isLt
  have h1 : (i 1 : Nat) < 8192 := (i 1).isLt
  obtain ⟨t, ht⟩ := onto0 ⟨(i 0 : Nat) / 1024, by omega⟩ ⟨(i 1 : Nat) / 1024, by omega⟩
  refine ⟨t, flush0_2 t, ?_⟩
  have e0 : win0_2.index t (0 : Fin 2) = (i 0 : Nat) / 1024 := congrFun ht 0
  have e1 : win0_2.index t (1 : Fin 2) = (i 1 : Nat) / 1024 := congrFun ht 1
  show i ∈ ((View.whole main_v5).slice (win0_2.rect t)).set
  rw [View.set_slice_whole, Rect.mem_set_unit]
  intro a
  match a with
  | ⟨0, _⟩ => show win0_2.index t (0 : Fin 2) * 1024 ≤ (i 0 : Nat) ∧ (i 0 : Nat) < win0_2.index t (0 : Fin 2) * 1024 + 1024
              omega
  | ⟨1, _⟩ => show win0_2.index t (1 : Fin 2) * 1024 ≤ (i 1 : Nat) ∧ (i 1 : Nat) < win0_2.index t (1 : Fin 2) * 1024 + 1024
              omega

/-- Region 0 leaves the scaled transpose of the arrays it finds. -/
theorem final0 (c : Dev nD) : (dat0 V c).arrAt 2 cfg0.N = xt (V c main_v3) (V c main_v4) :=
  (dat0 V c).arrAt_eq_of_cover 2 (xt (V c main_v3) (V c main_v4)) (fun t _ => flushed0 V c t) cover0

/-! ## Region 1: the product -/

/-- One block of region 1: the product of `y` and `g`, row `s` scaled by column `· % 256` of `ga`. -/
def blk1 (y : S1024x8192.Idx → EReal) (g : S8192x512.Idx → EReal) (ga : S1024x256.Idx → EReal) : S1024x512.Idx → EReal :=
  fun j => (∑ k : Fin 8192, y (ix2 (j 0) k) * g (ix2 k (j 1))) * ga (ix2 (j 0) ⟨(j 1).val % 256, Nat.mod_lt _ (by decide)⟩)

theorem pay3_apply (y : S1024x8192.Idx → EReal) (g : S8192x512.Idx → EReal) (ga : S1024x256.Idx → EReal) (j : S1024x256.Idx) :
    (k1_pay3 (F := Ideal) y g ga : S1024x256.Idx → EReal) j = blk1 y g ga (r1_3.emb j) := by
  have h1 : (j 1 : Nat) < 256 := (j 1).isLt
  have e : (r1_3.emb j : S1024x512.Idx) = ix2 (⟨(j 0).val, (j 0).isLt⟩ : Fin 1024) (⟨(j 1).val, by omega⟩ : Fin 512) := by
    refine Shape.idx_ext₂ ?_ ?_
    · show 0 + 1 * (j 0).val = (j 0).val
      omega
    · show 0 + 1 * (j 1).val = (j 1).val
      omega
  have e' : (⟨(j 1).val % 256, Nat.mod_lt _ (by decide)⟩ : Fin 256) = j 1 := Fin.ext (Nat.mod_eq_of_lt h1)
  rw [e]
  show _ = (∑ k : Fin 8192, y (ix2 (j 0) k) * g (ix2 k (⟨(j 1).val, by omega⟩ : Fin 512))) * ga (ix2 (j 0) ⟨(j 1).val % 256, Nat.mod_lt _ (by decide)⟩)
  rw [e']
  pointwise [k1_pay3, k1_pay2, k1_pay1, dot_S1024x8192_S8192x512_S1024x512_1_0_0_1_n_n]

theorem pay4_apply (y : S1024x8192.Idx → EReal) (g : S8192x512.Idx → EReal) (ga : S1024x256.Idx → EReal) (j : S1024x256.Idx) :
    (k1_pay4 (F := Ideal) y g ga : S1024x256.Idx → EReal) j = blk1 y g ga (r1_4.emb j) := by
  have h1 : (j 1 : Nat) < 256 := (j 1).isLt
  have e : (r1_4.emb j : S1024x512.Idx) = ix2 (⟨(j 0).val, (j 0).isLt⟩ : Fin 1024) (⟨256 + (j 1).val, by omega⟩ : Fin 512) := by
    refine Shape.idx_ext₂ ?_ ?_
    · show 0 + 1 * (j 0).val = (j 0).val
      omega
    · show 256 + 1 * (j 1).val = 256 + (j 1).val
      omega
  have e' : (⟨(256 + (j 1).val) % 256, Nat.mod_lt _ (by decide)⟩ : Fin 256) = j 1 := Fin.ext (by show (256 + (j 1).val) % 256 = (j 1).val; omega)
  rw [e]
  show _ = (∑ k : Fin 8192, y (ix2 (j 0) k) * g (ix2 k (⟨256 + (j 1).val, by omega⟩ : Fin 512))) * ga (ix2 (j 0) ⟨(256 + (j 1).val) % 256, Nat.mod_lt _ (by decide)⟩)
  rw [e']
  pointwise [k1_pay4, k1_pay2, k1_pay1, dot_S1024x8192_S8192x512_S1024x512_1_0_0_1_n_n]

/-- The two column halves the body stores are one block of the scaled product. -/
theorem out1_eq (y : S1024x8192.Idx → EReal) (g : S8192x512.Idx → EReal) (ga : S1024x256.Idx → EReal) :
    (out1_3 (F := Ideal) y g ga : S1024x512.Idx → EReal) = blk1 y g ga := by
  unfold out1_3
  rw [View.ld_unit_zero hz2, View.ld_unit_zero hz2, View.ld_unit_zero hz2]
  funext j
  refine View.canon_apply_of_pieces (Val := Elt Ideal) (e := .bf16) (blk1 y g ga) _ ?_ j (cover1_3 _ _ j)
  intro p hp x
  rcases List.mem_cons.mp hp with rfl | hp
  · exact pay4_apply y g ga x
  · rcases List.mem_cons.mp hp with rfl | hp
    · exact pay3_apply y g ga x
    · exact absurd hp List.not_mem_nil

/-- The product of `y` and `g`, row `s` scaled by `ga s`, `ga` given over 256 columns. -/
def prod (y : S4096x8192.Idx → EReal) (g : S8192x12288.Idx → EReal) (ga : S4096x256.Idx → EReal) : S4096x12288.Idx → EReal :=
  fun i => (∑ k : Fin 8192, y (ix2 (i 0) k) * g (ix2 k (i 1))) * ga (ix2 (i 0) ⟨(i 1).val % 256, Nat.mod_lt _ (by decide)⟩)

theorem idx1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = win1_3.index t (1 : Fin 2)
    ∧ win1_2.index t (0 : Fin 2) = win1_3.index t (0 : Fin 2) ∧ win1_2.index t (1 : Fin 2) = 0 :=
  (by decide +kernel : ∀ t : Fin grid1.N, _)

/-- Every block of region 1's output is some point's. -/
theorem onto1 : ∀ (a : Fin 4) (b : Fin 24), ∃ t : Fin cfg1.N, win1_3.index t = ![a.val, b.val] :=
  (by decide +kernel : ∀ (a : Fin 4) (b : Fin 24), ∃ t : Fin grid1.N, win1_3.index t = ![a.val, b.val])

/-- Reading an array through region 1's output block, at an index. -/
theorem read1 (G : S4096x12288.Idx → EReal) (t : Fin cfg1.N) (j : S1024x512.Idx) :
    ((cfg1.win 3).blk t).view.read (Elt Ideal) G j = G (((cfg1.win 3).blk t).view.emb j) := rfl

theorem flushed1 (c : Dev nD) (t : Fin cfg1.N) :
    (dat1 V c).flushed 3 t = ((cfg1.win 3).blk t).view.read (Elt Ideal) (prod (V c main_v5) (V c main_v2) (V c main_v1)) := by
  show (cfg1.win 3).cut (grid1.coords t) ((dat1 V c).after 3 t) = _
  rw [after1_3]
  obtain ⟨e0, e1, e2, e3, e4, e5⟩ := idx1 t
  funext (j : S1024x512.Idx)
  refine (congrFun (out1_eq (iblk1 V c 0 t) (iblk1 V c 1 t) (iblk1 V c 2 t)) j).trans ?_
  have ey (k : Fin 8192) : ((cfg1.win 0).blk t).view.emb (ix2 (j 0) k : S1024x8192.Idx)
      = (ix2 ((((cfg1.win 3).blk t).view.emb j : S4096x12288.Idx) 0) k : S4096x8192.Idx) := by
    refine Shape.idx_ext₂ ?_ ?_
    · show win1_0.index t (0 : Fin 2) * 1024 + 1 * (j 0).val = win1_3.index t (0 : Fin 2) * 1024 + 1 * (j 0).val
      omega
    · show win1_0.index t (1 : Fin 2) * 8192 + 1 * k.val = k.val
      omega
  have eg (k : Fin 8192) : ((cfg1.win 1).blk t).view.emb (ix2 k (j 1) : S8192x512.Idx)
      = (ix2 k ((((cfg1.win 3).blk t).view.emb j : S4096x12288.Idx) 1) : S8192x12288.Idx) := by
    refine Shape.idx_ext₂ ?_ ?_
    · show win1_1.index t (0 : Fin 2) * 8192 + 1 * k.val = k.val
      omega
    · show win1_1.index t (1 : Fin 2) * 512 + 1 * (j 1).val = win1_3.index t (1 : Fin 2) * 512 + 1 * (j 1).val
      omega
  have ea : ((cfg1.win 2).blk t).view.emb (ix2 (j 0) ⟨(j 1).val % 256, Nat.mod_lt _ (by decide)⟩ : S1024x256.Idx)
      = (ix2 ((((cfg1.win 3).blk t).view.emb j : S4096x12288.Idx) 0)
          ⟨((((cfg1.win 3).blk t).view.emb j : S4096x12288.Idx) 1).val % 256, Nat.mod_lt _ (by decide)⟩ : S4096x256.Idx) := by
    refine Shape.idx_ext₂ ?_ ?_
    · show win1_2.index t (0 : Fin 2) * 1024 + 1 * (j 0).val = win1_3.index t (0 : Fin 2) * 1024 + 1 * (j 0).val
      omega
    · show win1_2.index t (1 : Fin 2) * 256 + 1 * ((j 1).val % 256) = (win1_3.index t (1 : Fin 2) * 512 + 1 * (j 1).val) % 256
      omega
  refine Eq.trans (b := prod (V c main_v5) (V c main_v2) (V c main_v1) (((cfg1.win 3).blk t).view.emb j)) ?_ (read1 _ t j).symm
  unfold prod blk1
  refine congrArg₂ (fun a b : EReal => a * b) (Finset.sum_congr rfl fun k _ => ?_) (congrArg (V c main_v1) ea)
  exact congrArg₂ (fun a b : EReal => a * b) (congrArg (V c main_v5) (ey k)) (congrArg (V c main_v2) (eg k))

theorem cover1 (i : S4096x12288.Idx) :
    ∃ t : Fin cfg1.N, (cfg1.win 3).flush t = true ∧ i ∈ ((cfg1.win 3).blk t).view.set := by
  have h0 : (i 0 : Nat) < 4096 := (i 0).isLt
  have h1 : (i 1 : Nat) < 12288 := (i 1).isLt
  obtain ⟨t, ht⟩ := onto1 ⟨(i 0 : Nat) / 1024, by omega⟩ ⟨(i 1 : Nat) / 512, by omega⟩
  refine ⟨t, flush1_3 t, ?_⟩
  have e0 : win1_3.index t (0 : Fin 2) = (i 0 : Nat) / 1024 := congrFun ht 0
  have e1 : win1_3.index t (1 : Fin 2) = (i 1 : Nat) / 512 := congrFun ht 1
  show i ∈ ((View.whole main_v6).slice (win1_3.rect t)).set
  rw [View.set_slice_whole, Rect.mem_set_unit]
  intro a
  match a with
  | ⟨0, _⟩ => show win1_3.index t (0 : Fin 2) * 1024 ≤ (i 0 : Nat) ∧ (i 0 : Nat) < win1_3.index t (0 : Fin 2) * 1024 + 1024
              omega
  | ⟨1, _⟩ => show win1_3.index t (1 : Fin 2) * 512 ≤ (i 1 : Nat) ∧ (i 1 : Nat) < win1_3.index t (1 : Fin 2) * 512 + 512
              omega

/-- Region 1 leaves the scaled product of the arrays it finds. -/
theorem final1 (c : Dev nD) : (dat1 V c).arrAt 3 cfg1.N = prod (V c main_v5) (V c main_v2) (V c main_v1) :=
  (dat1 V c).arrAt_eq_of_cover 3 (prod (V c main_v5) (V c main_v2) (V c main_v1)) (fun t _ => flushed1 V c t) cover1

end

/-! ## The arrays the regions find -/

variable (m : (ℓ : Loc nD τ sig) → Buf (Elt Ideal) ℓ) (ρ : Dev nD → PrngReg)

theorem V1_v3 (c : Dev nD) : V1 m ρ c main_v3 = shapeCast S8192x4096 (m ((c : Thread nD τ).loc main_arg0)) shapeCasts_S1x8192x4096_S8192x4096 := by
  show StableHlo.after hostOps0 (W0 m ρ c) _ = _
  after_results
  try rfl

theorem V1_v4 (c : Dev nD) : V1 m ρ c main_v4 = mulf (F := Ideal) (s := S1x8192) (φ := .f32) (m ((c : Thread nD τ).loc main_arg1)) (m ((c : Thread nD τ).loc main_arg3)) := by
  show StableHlo.after hostOps0 (W0 m ρ c) _ = _
  after_results
  try rfl

theorem V2_v5 (c : Dev nD) : V2 m ρ c main_v5 = xt (V1 m ρ c main_v3) (V1 m ρ c main_v4) :=
  (W2_arr m ρ c 2).trans (final0 (V1 m ρ) c)

theorem V2_v2 (c : Dev nD) : V2 m ρ c main_v2 = shapeCast S8192x12288 (m ((c : Thread nD τ).loc main_arg2)) shapeCasts_S1x8192x3x32x128_S8192x12288 := by
  refine (W2_of m ρ c main_v2 (by decide)).trans ?_
  show StableHlo.after hostOps0 (W0 m ρ c) _ = _
  after_results
  try rfl

/-- `gamma` as a column, then over 256 columns. -/
def gcols (gamma : S4096.Idx → EReal) : S4096x256.Idx → EReal :=
  broadcastInDim S4096x256 ![0, 1] bcast_S4096x1_S4096x256_0_1 (broadcastInDim S4096x1 ![0] bcast_S4096_S4096x1_0 gamma)

theorem V2_v1 (c : Dev nD) : V2 m ρ c main_v1 = gcols (m ((c : Thread nD τ).loc main_arg4)) := by
  refine (W2_of m ρ c main_v1 (by decide)).trans ?_
  show StableHlo.after hostOps0 (W0 m ρ c) _ = _
  after_results
  try rfl

/-- The result from the argument arrays: at `(d, n)` the sum over the rows `k` of the first codes, times the product of the
    row's two scales, times the second codes laid out as a matrix; times `gamma d`. -/
def out (xh : S1x8192x4096.Idx → EReal) (xhs : S1x8192.Idx → EReal) (g : S8192x12288.Idx → EReal) (gs : S1x8192.Idx → EReal)
    (gamma : S4096.Idx → EReal) : S4096x12288.Idx → EReal :=
  fun i => (∑ k : Fin 8192, xh (ix3 0 k (i 0)) * (xhs (ix2 0 k) * gs (ix2 0 k)) * g (ix2 k (i 1))) * gamma (ix1 (i 0))

theorem prod_xt (xh : S1x8192x4096.Idx → EReal) (xhs : S1x8192.Idx → EReal) (g : S8192x12288.Idx → EReal) (gs : S1x8192.Idx → EReal)
    (gamma : S4096.Idx → EReal) :
    prod (xt (shapeCast S8192x4096 xh shapeCasts_S1x8192x4096_S8192x4096) (mulf (F := Ideal) (s := S1x8192) (φ := .f32) xhs gs))
      g (gcols gamma) = out xh xhs g gs gamma := by
  funext i
  unfold prod xt out gcols
  refine congrArg₂ (fun a b : EReal => a * b) (Finset.sum_congr rfl fun k _ => ?_) ?_
  · pointwise
  · pointwise

/-- The result array the program leaves, from its arguments. -/
theorem value (c : Dev nD) :
    (dat1 (V2 m ρ) c).arrAt 3 cfg1.N = out (m ((c : Thread nD τ).loc main_arg0)) (m ((c : Thread nD τ).loc main_arg1))
      (shapeCast S8192x12288 (m ((c : Thread nD τ).loc main_arg2)) shapeCasts_S1x8192x3x32x128_S8192x12288) (m ((c : Thread nD τ).loc main_arg3)) (m ((c : Thread nD τ).loc main_arg4)) := by
  rw [final1, V2_v5, V2_v2, V2_v1, V1_v3, V1_v4]
  exact prod_xt _ _ _ _ _

end Cert.DwQkvIdeal.Hand

end
-- ==== Proof.DwQkvAlgebra.lean ====
/-
  The algebraic claim of `DwQkvIdeal` against `DwQkvRefIdeal` (hand-written, untrusted): what the reference leaves in its
  output array, from its arguments; and that both results are the same sum, the factors of each term in another order.
-/
module

public import proofs.«01_k».proof.Defs
public import proofs.«01_k».proof.Proof.DwQkvValue
public import proofs.«01_k».proof.Proof.Gen.DwQkvRefIdeal.Value

@[expose] public section

noncomputable section

namespace Cert.DwQkvRefIdeal.Hand

open Cert.DwQkvRefIdeal Cert.DwQkvRefIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-! ## Every block of the one grid point is its whole array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1x8192x4096.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 8192 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x12288.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 12288 + 1 * (j 1).val = (j 1).val; omega

/-- Input window 2's block at the point is its array as the region finds it. -/
theorem iblk2_eq (c : Dev nD) (t : Fin cfg0.N) : iblk m c 2 t = V m c main_v0 := by
  funext j; show V m c main_v0 (((cfg0.win 2).blk t).view.emb j) = V m c main_v0 j; rw [emb2]

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x8192.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4096x1.Idx) : ((cfg0.win 4).blk t).view.emb j = j := by
  obtain ⟨e0, e1⟩ := idx_zero4 t
  funext a; apply Fin.ext
  match a with
  | ⟨0, _⟩ => show win0_4.index t (0 : Fin 2) * 4096 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_v1 := by
  funext j; show V m c main_v1 (((cfg0.win 4).blk t).view.emb j) = V m c main_v1 j; rw [emb4]

theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S4096x12288.Idx) : ((cfg0.win 5).blk t).view.emb j = j := by
  obtain ⟨e0, e1⟩ := idx_zero5 t
  funext a; apply Fin.ext
  match a with
  | ⟨0, _⟩ => show win0_5.index t (0 : Fin 2) * 4096 + 1 * (j 0).val = (j 0).val; omega
  | ⟨1, _⟩ => show win0_5.index t (1 : Fin 2) * 12288 + 1 * (j 1).val = (j 1).val; omega

/-! ## The array after the run -/

/-- The reference's result: `gamma` times the product of the two dequantised arrays over the rows. -/
def outRef (xh : S1x8192x4096.Idx → EReal) (xhs : S1x8192.Idx → EReal) (g : S8192x12288.Idx → EReal) (gs : S1x8192.Idx → EReal)
    (gc : S4096x1.Idx → EReal) : S4096x12288.Idx → EReal :=
  fun i => gc (ix2 (i 0) 0) * ∑ k : Fin 8192, xh (ix3 0 k (i 0)) * xhs (ix2 0 k) * (g (ix2 k (i 1)) * gs (ix2 0 k))

theorem pay1_apply (xh : S1x8192x4096.Idx → EReal) (xhs : S1x8192.Idx → EReal) (g : S8192x12288.Idx → EReal) (gs : S1x8192.Idx → EReal)
    (gc : S4096x1.Idx → EReal) (j : S4096x12288.Idx) :
    (k0_pay1 (F := Ideal) xh xhs g gs gc : S4096x12288.Idx → EReal) j = outRef xh xhs g gs gc j := by
  unfold outRef
  pointwise [k0_pay1, dot_S8192x4096_S8192x12288_S4096x12288_0_0_1_1_n_n]

theorem out0_eq (xh : S1x8192x4096.Idx → EReal) (xhs : S1x8192.Idx → EReal) (g : S8192x12288.Idx → EReal) (gs : S1x8192.Idx → EReal)
    (gc : S4096x1.Idx → EReal) :
    (out0_5 (F := Ideal) xh xhs g gs gc : S4096x12288.Idx → EReal) = outRef xh xhs g gs gc := by
  unfold out0_5
  rw [View.canon_unit_zero hz2, View.ld_unit_zero hz3, View.ld_unit_zero hz2, View.ld_unit_zero hz2, View.ld_unit_zero hz2, View.ld_unit_zero hz2]
  funext j
  exact pay1_apply xh xhs g gs gc j

/-- The buffer the body leaves at the point, from the arrays the region finds. -/
theorem flushed_eq (c : Dev nD) (t : Fin cfg0.N) :
    (dats m 0 c).flushed 5 t = ((cfg0.win 5).blk t).view.read (Elt Ideal) (outRef (V m c main_arg0) (V m c main_arg1) (V m c main_v0) (V m c main_arg3) (V m c main_v1)) := by
  rw [Cert.DwQkvRefIdeal.Value.flushed5, iblk0_eq, iblk1_eq, iblk2_eq, iblk3_eq, iblk4_eq]
  funext (j : S4096x12288.Idx)
  refine (congrFun (out0_eq (V m c main_arg0) (V m c main_arg1) (V m c main_v0) (V m c main_arg3) (V m c main_v1)) j).trans ?_
  show _ = outRef (V m c main_arg0) (V m c main_arg1) (V m c main_v0) (V m c main_arg3) (V m c main_v1) (((cfg0.win 5).blk t).view.emb j)
  rw [emb5]

theorem covered (i : S4096x12288.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

theorem V_col (c : Dev nD) : V m c main_v1 = broadcastInDim S4096x1 ![0] bcast_S4096_S4096x1_0 (m ((c : Thread nD τ).loc main_arg4)) := by
  show StableHlo.after hostOps0 (fun b => m (c, b)) _ = _
  after_results
  try rfl

theorem V_g (c : Dev nD) : V m c main_v0 = shapeCast S8192x12288 (m ((c : Thread nD τ).loc main_arg2)) shapeCasts_S1x8192x3x32x128_S8192x12288 := by
  show StableHlo.after hostOps0 (fun b => m (c, b)) _ = _
  after_results
  try rfl
/-- The array the reference leaves, from its arguments. -/
theorem value (c : Dev nD) :
    (dats m 0 c).arrAt 5 cfg0.N = outRef (m ((c : Thread nD τ).loc main_arg0)) (m ((c : Thread nD τ).loc main_arg1))
      (shapeCast S8192x12288 (m ((c : Thread nD τ).loc main_arg2)) shapeCasts_S1x8192x3x32x128_S8192x12288) (m ((c : Thread nD τ).loc main_arg3))
      (broadcastInDim S4096x1 ![0] bcast_S4096_S4096x1_0 (m ((c : Thread nD τ).loc main_arg4))) := by
  refine ((dats m 0 c).arrAt_eq_of_cover 5 (outRef (V m c main_arg0) (V m c main_arg1) (V m c main_v0) (V m c main_arg3) (V m c main_v1))
    (fun t _ => flushed_eq m c t) covered).trans ?_
  rw [V_main_arg0, V_main_arg1, V_main_arg3, V_g, V_col]

/-- The kernel's result and the reference's are one function of the arguments. -/
theorem out_eq (xh : S1x8192x4096.Idx → EReal) (xhs : S1x8192.Idx → EReal) (g : S8192x12288.Idx → EReal) (gs : S1x8192.Idx → EReal)
    (gamma : S4096.Idx → EReal) :
    Cert.DwQkvIdeal.Hand.out xh xhs g gs gamma = outRef xh xhs g gs (broadcastInDim S4096x1 ![0] bcast_S4096_S4096x1_0 gamma) := by
  funext i
  unfold Cert.DwQkvIdeal.Hand.out outRef
  refine (mul_comm _ _).trans (congrArg₂ (fun a b : EReal => a * b) ?_ (Finset.sum_congr rfl fun k _ => ?_))
  · pointwise
  · ac_rfl

end Cert.DwQkvRefIdeal.Hand

namespace Cert.Proof

open Idealize.ShloMosaic Idealize.ShloMosaic.TcCoe Idealize.SL.Sem

/-- From the same arguments the kernel and the reference leave the same array. -/
theorem algebraic_qkv : Cert.algebraic_DwQkvIdeal_DwQkvRefIdeal := by
  intro m ρ m' ρ' _ hagree
  refine ⟨_, Cert.DwQkvIdeal.Hand.run m ρ, ?_⟩
  refine (θ_run (Cert.DwQkvRefIdeal.defs (F := Ideal)) _ _).mono (fun r h c => ?_) (Cert.DwQkvRefIdeal.Value.run_blocks m' ρ')
  obtain ⟨h, hargs⟩ := h c
  obtain ⟨a0, a1, a2, a3, a4⟩ := hagree c
  refine ⟨h.trans ?_, hargs⟩
  rw [Cert.DwQkvIdeal.Hand.value, Cert.DwQkvRefIdeal.Hand.value, a0, a1, a2, a3, a4]
  exact (Cert.DwQkvRefIdeal.Hand.out_eq _ _ _ _ _).symm

end Cert.Proof

end
-- ==== Proof.DwInRun.lean ====
/-
  The run of `DwInIdeal` with its result array named (hand-written, untrusted): the generated frame run
  (Proof/Gen/DwInIdeal/Frame.lean `frame`), its last thread state read at the result as well as at the arguments.
-/
module

public import proofs.«01_k».proof.Proof.Gen.DwInIdeal.Frame

@[expose] public section

noncomputable section

namespace Cert.DwInIdeal.Hand

open Cert.DwInIdeal Cert.DwInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates without fault; afterwards the result array is what the second region's write-backs leave, and every
    argument array is as launched. -/
theorem run : θ_run defs (onTc (τ := τ) (main (F := F))) ⟨m, fun _ => 0, ρ⟩ (fun r => ∀ c : Dev nD,
      r.2.mem ((c.tc : Thread nD τ).loc main_v5) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v5 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.DwInIdeal.Hand

end
-- ==== Proof.DwInValue.lean ====
/-
  The value of `DwInIdeal` (hand-written, untrusted): what each of its two regions leaves in its output array, as one
  function of the arrays the region finds, index by index, and from these the result in terms of the arguments.
-/
module

public import proofs.«01_k».proof.Proof.DwInRun
public import Idealize.ShloMosaic.Lib.Pipeline.Value
public import Idealize.ShloMosaic.Lib.Pointwise

@[expose] public section

noncomputable section

namespace Cert.DwInIdeal.Hand

open Cert.DwInIdeal Cert.DwInIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-! ## Region 0: the scaled transpose -/

/-- The transpose of `x` with column `s` scaled by `w s`. -/
def xt (x : S8192x4096.Idx → EReal) (w : S1x8192.Idx → EReal) : S4096x8192.Idx → EReal :=
  fun i => x (ix2 (i 1) (i 0)) * w (ix2 0 (i 1))

theorem pay0_apply (x : S1024x1024.Idx → EReal) (w : S1x1024.Idx → EReal) (j : S1024x1024.Idx) :
    (k0_pay1 (F := Ideal) x w : S1024x1024.Idx → EReal) j = x (ix2 (j 1) (j 0)) * w (ix2 0 (j 1)) := by
  pointwise [k0_pay1]

/-- The index maps of region 0: the input's block is the output's, transposed; the scales' moves with its second axis. -/
theorem idx0 : ∀ t : Fin cfg0.N, win0_0.index t (0 : Fin 2) = win0_2.index t (1 : Fin 2)
    ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of region 0's output is some point's. -/
theorem onto0 : ∀ (a : Fin 4) (b : Fin 8), ∃ t : Fin cfg0.N, win0_2.index t = ![a.val, b.val] :=
  (by decide +kernel : ∀ (a : Fin 4) (b : Fin 8), ∃ t : Fin grid0.N, win0_2.index t = ![a.val, b.val])

section
variable (V : (c : Dev nD) → (b : Ref sig .tc) → Buf (Elt Ideal) ((c : Thread nD τ).loc b))

theorem flushed0 (c : Dev nD) (t : Fin cfg0.N) :
    (dat0 V c).flushed 2 t = ((cfg0.win 2).blk t).view.read (Elt Ideal) (xt (V c main_v2) (V c main_v3)) := by
  show (cfg0.win 2).cut (grid0.coords t) ((dat0 V c).after 2 t) = _
  rw [after0_2]
  unfold out0_2
  rw [View.canon_unit_zero hz2, View.ld_unit_zero hz2, View.ld_unit_zero hz2]
  obtain ⟨e0, e1, e2, e3⟩ := idx0 t
  funext j
  refine (pay0_apply _ _ j).trans ?_
  suffices key : ∀ (x : S8192x4096.Idx → EReal) (w : S1x8192.Idx → EReal),
      x (((cfg0.win 0).blk t).view.emb (ix2 (j 1) (j 0))) * w (((cfg0.win 1).blk t).view.emb (ix2 0 (j 1)))
        = xt x w (((cfg0.win 2).blk t).view.emb j) from key (V c main_v2) (V c main_v3)
  intro x w
  unfold xt
  congr 2
  · refine Shape.idx_ext₂ ?_ ?_
    · show win0_0.index t (0 : Fin 2) * 1024 + 1 * (j 1).val = win0_2.index t (1 : Fin 2) * 1024 + 1 * (j 1).val
      omega
    · show win0_0.index t (1 : Fin 2) * 1024 + 1 * (j 0).val = win0_2.index t (0 : Fin 2) * 1024 + 1 * (j 0).val
      omega
  · refine Shape.idx_ext₂ ?_ ?_
    · show win0_1.index t (0 : Fin 2) * 1 + 1 * 0 = 0
      omega
    · show win0_1.index t (1 : Fin 2) * 1024 + 1 * (j 1).val = win0_2.index t (1 : Fin 2) * 1024 + 1 * (j 1).val
      omega

theorem cover0 (i : S4096x8192.Idx) :
    ∃ t : Fin cfg0.N, (cfg0.win 2).flush t = true ∧ i ∈ ((cfg0.win 2).blk t).view.set := by
  have h0 : (i 0 : Nat) < 4096 := (i 0).isLt
  have h1 : (i 1 : Nat) < 8192 := (i 1).isLt
  obtain ⟨t, ht⟩ := onto0 ⟨(i 0 : Nat) / 1024, by omega⟩ ⟨(i 1 : Nat) / 1024, by omega⟩
  refine ⟨t, flush0_2 t, ?_⟩
  have e0 : win0_2.index t (0 : Fin 2) = (i 0 : Nat) / 1024 := congrFun ht 0
  have e1 : win0_2.index t (1 : Fin 2) = (i 1 : Nat) / 1024 := congrFun ht 1
  show i ∈ ((View.whole main_v4).slice (win0_2.rect t)).set
  rw [View.set_slice_whole, Rect.mem_set_unit]
  intro a
  match a with
  | ⟨0, _⟩ => show win0_2.index t (0 : Fin 2) * 1024 ≤ (i 0 : Nat) ∧ (i 0 : Nat) < win0_2.index t (0 : Fin 2) * 1024 + 1024
              omega
  | ⟨1, _⟩ => show win0_2.index t (1 : Fin 2) * 1024 ≤ (i 1 : Nat) ∧ (i 1 : Nat) < win0_2.index t (1 : Fin 2) * 1024 + 1024
              omega

/-- Region 0 leaves the scaled transpose of the arrays it finds. -/
theorem final0 (c : Dev nD) : (dat0 V c).arrAt 2 cfg0.N = xt (V c main_v2) (V c main_v3) :=
  (dat0 V c).arrAt_eq_of_cover 2 (xt (V c main_v2) (V c main_v3)) (fun t _ => flushed0 V c t) cover0

/-- Two rank-three indices with equal coordinates are equal. -/
theorem idx_ext₃ {n : Fin 3 → ℕ} {x y : (a : Fin 3) → Fin (n a)} (h0 : (x 0 : ℕ) = y 0) (h1 : (x 1 : ℕ) = y 1) (h2 : (x 2 : ℕ) = y 2) :
    x = y := by
  funext a
  apply Fin.ext
  match a with
  | ⟨0, _⟩ => exact h0
  | ⟨1, _⟩ => exact h1
  | ⟨2, _⟩ => exact h2

/-! ## Region 1: the products -/

/-- One block of region 1: in each of the two planes the product of `y` and that plane of `g`, scaled by `ga`. -/
def blk1 (y : S1024x8192.Idx → EReal) (g : S2x8192x256.Idx → EReal) (ga : S1024x256.Idx → EReal) : S2x1024x256.Idx → EReal :=
  fun j => (∑ k : Fin 8192, y (ix2 (j 1) k) * g (ix3 (j 0) k (j 2))) * ga (ix2 (j 1) (j 2))

theorem pay1_apply (y : S1024x8192.Idx → EReal) (g : S2x8192x256.Idx → EReal) (ga : S1024x256.Idx → EReal) (j : S1x1024x256.Idx) :
    (k1_pay1 (F := Ideal) y (View.ld (Val := Elt Ideal) (e' := .fp8e5m2) g r1_1) ga : S1x1024x256.Idx → EReal) j = blk1 y g ga (r1_3.emb j) := by
  have h0 : (j 0 : Nat) < 1 := (j 0).isLt
  have e : (r1_3.emb j : S2x1024x256.Idx) = ix3 (0 : Fin 2) (⟨(j 1).val, (j 1).isLt⟩ : Fin 1024) (⟨(j 2).val, (j 2).isLt⟩ : Fin 256) := by
    refine idx_ext₃ ?_ ?_ ?_
    · show 0 + 1 * (j 0).val = 0
      omega
    · show 0 + 1 * (j 1).val = (j 1).val
      omega
    · show 0 + 1 * (j 2).val = (j 2).val
      omega
  rw [e]
  show _ = (∑ k : Fin 8192, y (ix2 (j 1) k) * g (ix3 (0 : Fin 2) k (j 2))) * ga (ix2 (j 1) (j 2))
  pointwise [k1_pay1, dot_S1024x8192_S8192x256_S1024x256_1_0_0_1_n_n]

theorem pay2_apply (y : S1024x8192.Idx → EReal) (g : S2x8192x256.Idx → EReal) (ga : S1024x256.Idx → EReal) (j : S1x1024x256.Idx) :
    (k1_pay2 (F := Ideal) y (View.ld (Val := Elt Ideal) (e' := .fp8e5m2) g r1_4) ga : S1x1024x256.Idx → EReal) j = blk1 y g ga (r1_5.emb j) := by
  have h0 : (j 0 : Nat) < 1 := (j 0).isLt
  have e : (r1_5.emb j : S2x1024x256.Idx) = ix3 (1 : Fin 2) (⟨(j 1).val, (j 1).isLt⟩ : Fin 1024) (⟨(j 2).val, (j 2).isLt⟩ : Fin 256) := by
    refine idx_ext₃ ?_ ?_ ?_
    · show 1 + 1 * (j 0).val = 1
      omega
    · show 0 + 1 * (j 1).val = (j 1).val
      omega
    · show 0 + 1 * (j 2).val = (j 2).val
      omega
  rw [e]
  show _ = (∑ k : Fin 8192, y (ix2 (j 1) k) * g (ix3 (1 : Fin 2) k (j 2))) * ga (ix2 (j 1) (j 2))
  pointwise [k1_pay2, dot_S1024x8192_S8192x256_S1024x256_1_0_0_1_n_n]

/-- The two planes the body stores are one block of the scaled products. -/
theorem out1_eq (y : S1024x8192.Idx → EReal) (g : S2x8192x256.Idx → EReal) (ga : S1024x256.Idx → EReal) :
    (out1_3 (F := Ideal) y g ga : S2x1024x256.Idx → EReal) = blk1 y g ga := by
  unfold out1_3
  rw [View.ld_unit_zero hz2, View.ld_unit_zero hz2]
  funext j
  refine View.canon_apply_of_pieces (Val := Elt Ideal) (e := .bf16) (blk1 y g ga) _ ?_ j (cover1_3 _ _ j)
  intro p hp x
  rcases List.mem_cons.mp hp with rfl | hp
  · exact pay2_apply y g ga x
  · rcases List.mem_cons.mp hp with rfl | hp
    · exact pay1_apply y g ga x
    · exact absurd hp List.not_mem_nil

/-- In each of the two planes the product of `y` and that plane of `g`, row `s` scaled by `ga s`, `ga` given over 256 columns. -/
def prod (y : S4096x8192.Idx → EReal) (g : S2x8192x11008.Idx → EReal) (ga : S4096x256.Idx → EReal) : S2x4096x11008.Idx → EReal :=
  fun i => (∑ k : Fin 8192, y (ix2 (i 1) k) * g (ix3 (i 0) k (i 2))) * ga (ix2 (i 1) ⟨(i 2).val % 256, Nat.mod_lt _ (by decide)⟩)

theorem idx1 : ∀ t : Fin cfg1.N, win1_0.index t (0 : Fin 2) = win1_3.index t (1 : Fin 3)
    ∧ win1_0.index t (1 : Fin 2) = 0
    ∧ win1_1.index t (0 : Fin 3) = 0 ∧ win1_1.index t (1 : Fin 3) = 0 ∧ win1_1.index t (2 : Fin 3) = win1_3.index t (2 : Fin 3)
    ∧ win1_2.index t (0 : Fin 2) = win1_3.index t (1 : Fin 3) ∧ win1_2.index t (1 : Fin 2) = 0 ∧ win1_3.index t (0 : Fin 3) = 0 :=
  (by decide +kernel : ∀ t : Fin grid1.N, _)

/-- Every block of region 1's output is some point's. -/
theorem onto1 : ∀ (a : Fin 4) (b : Fin 43), ∃ t : Fin cfg1.N, win1_3.index t = ![0, a.val, b.val] :=
  (by decide +kernel : ∀ (a : Fin 4) (b : Fin 43), ∃ t : Fin grid1.N, win1_3.index t = ![0, a.val, b.val])

/-- Reading an array through region 1's output block, at an index. -/
theorem read1 (G : S2x4096x11008.Idx → EReal) (t : Fin cfg1.N) (j : S2x1024x256.Idx) :
    ((cfg1.win 3).blk t).view.read (Elt Ideal) G j = G (((cfg1.win 3).blk t).view.emb j) := rfl

theorem flushed1 (c : Dev nD) (t : Fin cfg1.N) :
    (dat1 V c).flushed 3 t = ((cfg1.win 3).blk t).view.read (Elt Ideal) (prod (V c main_v4) (V c main_arg2) (V c main_v1)) := by
  show (cfg1.win 3).cut (grid1.coords t) ((dat1 V c).after 3 t) = _
  rw [after1_3]
  obtain ⟨e0, e1, e2, e3, e4, e5, e6, e7⟩ := idx1 t
  funext (j : S2x1024x256.Idx)
  refine (congrFun (out1_eq (iblk1 V c 0 t) (iblk1 V c 1 t) (iblk1 V c 2 t)) j).trans ?_
  have ey (k : Fin 8192) : ((cfg1.win 0).blk t).view.emb (ix2 (j 1) k : S1024x8192.Idx)
      = (ix2 ((((cfg1.win 3).blk t).view.emb j : S2x4096x11008.Idx) 1) k : S4096x8192.Idx) := by
    refine Shape.idx_ext₂ ?_ ?_
    · show win1_0.index t (0 : Fin 2) * 1024 + 1 * (j 1).val = win1_3.index t (1 : Fin 3) * 1024 + 1 * (j 1).val
      omega
    · show win1_0.index t (1 : Fin 2) * 8192 + 1 * k.val = k.val
      omega
  have eg (k : Fin 8192) : ((cfg1.win 1).blk t).view.emb (ix3 (j 0) k (j 2) : S2x8192x256.Idx)
      = (ix3 ((((cfg1.win 3).blk t).view.emb j : S2x4096x11008.Idx) 0) k ((((cfg1.win 3).blk t).view.emb j : S2x4096x11008.Idx) 2) : S2x8192x11008.Idx) := by
    refine idx_ext₃ ?_ ?_ ?_
    · show win1_1.index t (0 : Fin 3) * 2 + 1 * (j 0).val = win1_3.index t (0 : Fin 3) * 2 + 1 * (j 0).val
      omega
    · show win1_1.index t (1 : Fin 3) * 8192 + 1 * k.val = k.val
      omega
    · show win1_1.index t (2 : Fin 3) * 256 + 1 * (j 2).val = win1_3.index t (2 : Fin 3) * 256 + 1 * (j 2).val
      omega
  have h2 : (j 2 : Nat) < 256 := (j 2).isLt
  have ea : ((cfg1.win 2).blk t).view.emb (ix2 (j 1) (j 2) : S1024x256.Idx)
      = (ix2 ((((cfg1.win 3).blk t).view.emb j : S2x4096x11008.Idx) 1)
          ⟨((((cfg1.win 3).blk t).view.emb j : S2x4096x11008.Idx) 2).val % 256, Nat.mod_lt _ (by decide)⟩ : S4096x256.Idx) := by
    refine Shape.idx_ext₂ ?_ ?_
    · show win1_2.index t (0 : Fin 2) * 1024 + 1 * (j 1).val = win1_3.index t (1 : Fin 3) * 1024 + 1 * (j 1).val
      omega
    · show win1_2.index t (1 : Fin 2) * 256 + 1 * (j 2).val = (win1_3.index t (2 : Fin 3) * 256 + 1 * (j 2).val) % 256
      omega
  refine Eq.trans (b := prod (V c main_v4) (V c main_arg2) (V c main_v1) (((cfg1.win 3).blk t).view.emb j)) ?_ (read1 _ t j).symm
  unfold prod blk1
  refine congrArg₂ (fun a b : EReal => a * b) (Finset.sum_congr rfl fun k _ => ?_) (congrArg (V c main_v1) ea)
  exact congrArg₂ (fun a b : EReal => a * b) (congrArg (V c main_v4) (ey k)) (congrArg (V c main_arg2) (eg k))

theorem cover1 (i : S2x4096x11008.Idx) :
    ∃ t : Fin cfg1.N, (cfg1.win 3).flush t = true ∧ i ∈ ((cfg1.win 3).blk t).view.set := by
  have h0 : (i 0 : Nat) < 2 := (i 0).isLt
  have h1 : (i 1 : Nat) < 4096 := (i 1).isLt
  have h2 : (i 2 : Nat) < 11008 := (i 2).isLt
  obtain ⟨t, ht⟩ := onto1 ⟨(i 1 : Nat) / 1024, by omega⟩ ⟨(i 2 : Nat) / 256, by omega⟩
  refine ⟨t, flush1_3 t, ?_⟩
  have e0 : win1_3.index t (0 : Fin 3) = 0 := congrFun ht 0
  have e1 : win1_3.index t (1 : Fin 3) = (i 1 : Nat) / 1024 := congrFun ht 1
  have e2 : win1_3.index t (2 : Fin 3) = (i 2 : Nat) / 256 := congrFun ht 2
  show i ∈ ((View.whole main_v5).slice (win1_3.rect t)).set
  rw [View.set_slice_whole, Rect.mem_set_unit]
  intro a
  match a with
  | ⟨0, _⟩ => show win1_3.index t (0 : Fin 3) * 2 ≤ (i 0 : Nat) ∧ (i 0 : Nat) < win1_3.index t (0 : Fin 3) * 2 + 2
              omega
  | ⟨1, _⟩ => show win1_3.index t (1 : Fin 3) * 1024 ≤ (i 1 : Nat) ∧ (i 1 : Nat) < win1_3.index t (1 : Fin 3) * 1024 + 1024
              omega
  | ⟨2, _⟩ => show win1_3.index t (2 : Fin 3) * 256 ≤ (i 2 : Nat) ∧ (i 2 : Nat) < win1_3.index t (2 : Fin 3) * 256 + 256
              omega

/-- Region 1 leaves the scaled products of the arrays it finds. -/
theorem final1 (c : Dev nD) : (dat1 V c).arrAt 3 cfg1.N = prod (V c main_v4) (V c main_arg2) (V c main_v1) :=
  (dat1 V c).arrAt_eq_of_cover 3 (prod (V c main_v4) (V c main_arg2) (V c main_v1)) (fun t _ => flushed1 V c t) cover1

end

/-! ## The arrays the regions find -/

variable (m : (ℓ : Loc nD τ sig) → Buf (Elt Ideal) ℓ) (ρ : Dev nD → PrngReg)

theorem V1_v2 (c : Dev nD) : V1 m ρ c main_v2 = shapeCast S8192x4096 (m ((c : Thread nD τ).loc main_arg0)) shapeCasts_S1x8192x4096_S8192x4096 := by
  show StableHlo.after hostOps0 (W0 m ρ c) _ = _
  after_results
  try rfl

theorem V1_v3 (c : Dev nD) : V1 m ρ c main_v3 = mulf (F := Ideal) (s := S1x8192) (φ := .f32) (m ((c : Thread nD τ).loc main_arg1)) (m ((c : Thread nD τ).loc main_arg3)) := by
  show StableHlo.after hostOps0 (W0 m ρ c) _ = _
  after_results
  try rfl

theorem V2_v4 (c : Dev nD) : V2 m ρ c main_v4 = xt (V1 m ρ c main_v2) (V1 m ρ c main_v3) :=
  (W2_arr m ρ c 2).trans (final0 (V1 m ρ) c)

theorem V2_arg2 (c : Dev nD) : V2 m ρ c main_arg2 = m ((c : Thread nD τ).loc main_arg2) :=
  W2_args m ρ c main_arg2 (by decide)

/-- `gamma` as a column, then over 256 columns. -/
def gcols (gamma : S4096.Idx → EReal) : S4096x256.Idx → EReal :=
  broadcastInDim S4096x256 ![0, 1] bcast_S4096x1_S4096x256_0_1 (broadcastInDim S4096x1 ![0] bcast_S4096_S4096x1_0 gamma)

theorem V2_v1 (c : Dev nD) : V2 m ρ c main_v1 = gcols (m ((c : Thread nD τ).loc main_arg4)) := by
  refine (W2_of m ρ c main_v1 (by decide)).trans ?_
  show StableHlo.after hostOps0 (W0 m ρ c) _ = _
  after_results
  try rfl

/-- The result from the argument arrays: at `(h, d, n)` the sum over the rows `k` of the first codes, times the product of
    the row's two scales, times plane `h` of the second codes; times `gamma d`. -/
def out (xh : S1x8192x4096.Idx → EReal) (xhs : S1x8192.Idx → EReal) (g : S2x8192x11008.Idx → EReal) (gs : S1x8192.Idx → EReal)
    (gamma : S4096.Idx → EReal) : S2x4096x11008.Idx → EReal :=
  fun i => (∑ k : Fin 8192, xh (ix3 0 k (i 1)) * (xhs (ix2 0 k) * gs (ix2 0 k)) * g (ix3 (i 0) k (i 2))) * gamma (ix1 (i 1))

theorem prod_xt (xh : S1x8192x4096.Idx → EReal) (xhs : S1x8192.Idx → EReal) (g : S2x8192x11008.Idx → EReal) (gs : S1x8192.Idx → EReal)
    (gamma : S4096.Idx → EReal) :
    prod (xt (shapeCast S8192x4096 xh shapeCasts_S1x8192x4096_S8192x4096) (mulf (F := Ideal) (s := S1x8192) (φ := .f32) xhs gs))
      g (gcols gamma) = out xh xhs g gs gamma := by
  funext i
  unfold prod xt out gcols
  refine congrArg₂ (fun a b : EReal => a * b) (Finset.sum_congr rfl fun k _ => ?_) ?_
  · pointwise
  · pointwise

/-- The result array the program leaves, from its arguments. -/
theorem value (c : Dev nD) :
    (dat1 (V2 m ρ) c).arrAt 3 cfg1.N = out (m ((c : Thread nD τ).loc main_arg0)) (m ((c : Thread nD τ).loc main_arg1))
      (m ((c : Thread nD τ).loc main_arg2)) (m ((c : Thread nD τ).loc main_arg3)) (m ((c : Thread nD τ).loc main_arg4)) := by
  rw [final1, V2_v4, V2_arg2, V2_v1, V1_v2, V1_v3]
  exact prod_xt _ _ _ _ _

end Cert.DwInIdeal.Hand

end
-- ==== Proof.DwInAlgebra.lean ====
/-
  The algebraic claim of `DwInIdeal` against `DwInRefIdeal` (hand-written, untrusted): what the reference leaves in its
  output array, from its arguments; and that both results are the same sum, the factors of each term in another order.
-/
module

public import proofs.«01_k».proof.Defs
public import proofs.«01_k».proof.Proof.DwInValue
public import proofs.«01_k».proof.Proof.Gen.DwInRefIdeal.Value

@[expose] public section

noncomputable section

namespace Cert.DwInRefIdeal.Hand

open Cert.DwInRefIdeal Cert.DwInRefIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-! ## Every block of the one grid point is its whole array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1x8192x4096.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 8192 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x8192x11008.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 8192 + 1 * (j 1).val = (j 1).val; omega
  | ⟨2, _⟩ => show win0_2.index t (2 : Fin 3) * 11008 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x8192.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4096x1.Idx) : ((cfg0.win 4).blk t).view.emb j = j := by
  obtain ⟨e0, e1⟩ := idx_zero4 t
  funext a; apply Fin.ext
  match a with
  | ⟨0, _⟩ => show win0_4.index t (0 : Fin 2) * 4096 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_v0 := by
  funext j; show V m c main_v0 (((cfg0.win 4).blk t).view.emb j) = V m c main_v0 j; rw [emb4]

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x4096x11008.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 4096 + 1 * (j 1).val = (j 1).val; omega
  | ⟨2, _⟩ => show win0_5.index t (2 : Fin 3) * 11008 + 1 * (j 2).val = (j 2).val; omega

/-! ## The array after the run -/

/-- The reference's result: in each of the two planes `gamma` times the product of the two dequantised arrays over the rows. -/
def outRef (xh : S1x8192x4096.Idx → EReal) (xhs : S1x8192.Idx → EReal) (g : S2x8192x11008.Idx → EReal) (gs : S1x8192.Idx → EReal)
    (gc : S4096x1.Idx → EReal) : S2x4096x11008.Idx → EReal :=
  fun i => gc (ix2 (i 1) 0) * ∑ k : Fin 8192, xh (ix3 0 k (i 1)) * xhs (ix2 0 k) * (g (ix3 (i 0) k (i 2)) * gs (ix2 0 k))

theorem pay3_apply (xh : S1x8192x4096.Idx → EReal) (xhs : S1x8192.Idx → EReal) (g : S2x8192x11008.Idx → EReal) (gs : S1x8192.Idx → EReal)
    (gc : S4096x1.Idx → EReal) (j : S1x4096x11008.Idx) :
    (k0_pay3 (F := Ideal) xh xhs (View.ld (Val := Elt Ideal) (e' := .fp8e5m2) g r0_2) gs gc : S1x4096x11008.Idx → EReal) j
      = outRef xh xhs g gs gc (r0_4.emb j) := by
  have h0 : (j 0 : Nat) < 1 := (j 0).isLt
  have e : (r0_4.emb j : S2x4096x11008.Idx) = ix3 (0 : Fin 2) (⟨(j 1).val, (j 1).isLt⟩ : Fin 4096) (⟨(j 2).val, (j 2).isLt⟩ : Fin 11008) := by
    refine Cert.DwInIdeal.Hand.idx_ext₃ ?_ ?_ ?_
    · show 0 + 1 * (j 0).val = 0
      omega
    · show 0 + 1 * (j 1).val = (j 1).val
      omega
    · show 0 + 1 * (j 2).val = (j 2).val
      omega
  rw [e]
  show _ = gc (ix2 (j 1) 0) * ∑ k : Fin 8192, xh (ix3 0 k (j 1)) * xhs (ix2 0 k) * (g (ix3 (0 : Fin 2) k (j 2)) * gs (ix2 0 k))
  pointwise [k0_pay3, k0_pay2, dot_S8192x4096_S8192x11008_S4096x11008_0_0_1_1_n_n]

theorem pay1_apply (xh : S1x8192x4096.Idx → EReal) (xhs : S1x8192.Idx → EReal) (g : S2x8192x11008.Idx → EReal) (gs : S1x8192.Idx → EReal)
    (gc : S4096x1.Idx → EReal) (j : S1x4096x11008.Idx) :
    (k0_pay1 (F := Ideal) (k0_pay2 xh xhs) (k0_pay4 (View.ld (Val := Elt Ideal) (e' := .fp8e5m2) g r0_5) gs) gc : S1x4096x11008.Idx → EReal) j
      = outRef xh xhs g gs gc (r0_6.emb j) := by
  have h0 : (j 0 : Nat) < 1 := (j 0).isLt
  have e : (r0_6.emb j : S2x4096x11008.Idx) = ix3 (1 : Fin 2) (⟨(j 1).val, (j 1).isLt⟩ : Fin 4096) (⟨(j 2).val, (j 2).isLt⟩ : Fin 11008) := by
    refine Cert.DwInIdeal.Hand.idx_ext₃ ?_ ?_ ?_
    · show 1 + 1 * (j 0).val = 1
      omega
    · show 0 + 1 * (j 1).val = (j 1).val
      omega
    · show 0 + 1 * (j 2).val = (j 2).val
      omega
  rw [e]
  show _ = gc (ix2 (j 1) 0) * ∑ k : Fin 8192, xh (ix3 0 k (j 1)) * xhs (ix2 0 k) * (g (ix3 (1 : Fin 2) k (j 2)) * gs (ix2 0 k))
  pointwise [k0_pay1, k0_pay2, k0_pay4, dot_S8192x4096_S8192x11008_S4096x11008_0_0_1_1_n_n]

/-- The two planes the body stores are the one function. -/
theorem out0_eq (xh : S1x8192x4096.Idx → EReal) (xhs : S1x8192.Idx → EReal) (g : S2x8192x11008.Idx → EReal) (gs : S1x8192.Idx → EReal)
    (gc : S4096x1.Idx → EReal) :
    (out0_5 (F := Ideal) xh xhs g gs gc : S2x4096x11008.Idx → EReal) = outRef xh xhs g gs gc := by
  unfold out0_5
  rw [View.ld_unit_zero hz3, View.ld_unit_zero hz2, View.ld_unit_zero hz2, View.ld_unit_zero hz2]
  funext j
  refine View.canon_apply_of_pieces (Val := Elt Ideal) (e := .bf16) (outRef xh xhs g gs gc) _ ?_ j (cover0_5 _ _ j)
  intro p hp x
  rcases List.mem_cons.mp hp with rfl | hp
  · exact pay1_apply xh xhs g gs gc x
  · rcases List.mem_cons.mp hp with rfl | hp
    · exact pay3_apply xh xhs g gs gc x
    · exact absurd hp List.not_mem_nil

/-- The buffer the body leaves at the point, from the arrays the region finds. -/
theorem flushed_eq (c : Dev nD) (t : Fin cfg0.N) :
    (dats m 0 c).flushed 5 t = ((cfg0.win 5).blk t).view.read (Elt Ideal) (outRef (V m c main_arg0) (V m c main_arg1) (V m c main_arg2) (V m c main_arg3) (V m c main_v0)) := by
  rw [Cert.DwInRefIdeal.Value.flushed5, iblk0_eq, iblk1_eq, iblk2_eq, iblk3_eq, iblk4_eq]
  funext (j : S2x4096x11008.Idx)
  refine (congrFun (out0_eq (V m c main_arg0) (V m c main_arg1) (V m c main_arg2) (V m c main_arg3) (V m c main_v0)) j).trans ?_
  show _ = outRef (V m c main_arg0) (V m c main_arg1) (V m c main_arg2) (V m c main_arg3) (V m c main_v0) (((cfg0.win 5).blk t).view.emb j)
  rw [emb5]

theorem covered (i : S2x4096x11008.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

theorem V_col (c : Dev nD) : V m c main_v0 = broadcastInDim S4096x1 ![0] bcast_S4096_S4096x1_0 (m ((c : Thread nD τ).loc main_arg4)) := by
  show StableHlo.after hostOps0 (fun b => m (c, b)) _ = _
  after_results
  try rfl
/-- The array the reference leaves, from its arguments. -/
theorem value (c : Dev nD) :
    (dats m 0 c).arrAt 5 cfg0.N = outRef (m ((c : Thread nD τ).loc main_arg0)) (m ((c : Thread nD τ).loc main_arg1))
      (m ((c : Thread nD τ).loc main_arg2)) (m ((c : Thread nD τ).loc main_arg3))
      (broadcastInDim S4096x1 ![0] bcast_S4096_S4096x1_0 (m ((c : Thread nD τ).loc main_arg4))) := by
  refine ((dats m 0 c).arrAt_eq_of_cover 5 (outRef (V m c main_arg0) (V m c main_arg1) (V m c main_arg2) (V m c main_arg3) (V m c main_v0))
    (fun t _ => flushed_eq m c t) covered).trans ?_
  rw [V_main_arg0, V_main_arg1, V_main_arg3, V_main_arg2, V_col]

/-- The kernel's result and the reference's are one function of the arguments. -/
theorem out_eq (xh : S1x8192x4096.Idx → EReal) (xhs : S1x8192.Idx → EReal) (g : S2x8192x11008.Idx → EReal) (gs : S1x8192.Idx → EReal)
    (gamma : S4096.Idx → EReal) :
    Cert.DwInIdeal.Hand.out xh xhs g gs gamma = outRef xh xhs g gs (broadcastInDim S4096x1 ![0] bcast_S4096_S4096x1_0 gamma) := by
  funext i
  unfold Cert.DwInIdeal.Hand.out outRef
  refine (mul_comm _ _).trans (congrArg₂ (fun a b : EReal => a * b) ?_ (Finset.sum_congr rfl fun k _ => ?_))
  · pointwise
  · ac_rfl

end Cert.DwInRefIdeal.Hand

namespace Cert.Proof

open Idealize.ShloMosaic Idealize.ShloMosaic.TcCoe Idealize.SL.Sem

/-- From the same arguments the kernel and the reference leave the same array. -/
theorem algebraic_in : Cert.algebraic_DwInIdeal_DwInRefIdeal := by
  intro m ρ m' ρ' _ hagree
  refine ⟨_, Cert.DwInIdeal.Hand.run m ρ, ?_⟩
  refine (θ_run (Cert.DwInRefIdeal.defs (F := Ideal)) _ _).mono (fun r h c => ?_) (Cert.DwInRefIdeal.Value.run_blocks m' ρ')
  obtain ⟨h, hargs⟩ := h c
  obtain ⟨a0, a1, a2, a3, a4⟩ := hagree c
  refine ⟨h.trans ?_, hargs⟩
  rw [Cert.DwInIdeal.Hand.value, Cert.DwInRefIdeal.Hand.value, a0, a1, a2, a3, a4]
  exact (Cert.DwInRefIdeal.Hand.out_eq _ _ _ _ _).symm

end Cert.Proof

end
-- ==== Proof.DhValue.lean ====
/-
  The value of `DhIdeal` (hand-written, untrusted): what each grid point leaves in the output block and the two carried
  columns of scales, the sum they build up, and from these the result in terms of the arguments.
-/
module

public import proofs.«01_k».proof.Proof.Gen.DhIdeal.Frame
public import Idealize.ShloMosaic.Lib.Pipeline.Value
public import Idealize.ShloMosaic.Lib.Pointwise

@[expose] public section

noncomputable section

namespace Cert.DhIdeal.Hand

open Cert.DhIdeal Cert.DhIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- Two rank-three indices with equal coordinates are equal. -/
theorem idx_ext₃ {n : Fin 3 → ℕ} {x y : (a : Fin 3) → Fin (n a)} (h0 : (x 0 : ℕ) = y 0) (h1 : (x 1 : ℕ) = y 1) (h2 : (x 2 : ℕ) = y 2) :
    x = y := by
  funext a
  apply Fin.ext
  match a with
  | ⟨0, _⟩ => exact h0
  | ⟨1, _⟩ => exact h1
  | ⟨2, _⟩ => exact h2

/-! ## The payloads, read at an index -/

/-- A row of scales as a column, repeated over 256 columns. -/
def col (w : S1x1024.Idx → EReal) : S1024x256.Idx → EReal := fun i => w (ix2 0 (i 0))

theorem pay2_eq (w : S1x1024.Idx → EReal) : (k0_pay2 (F := Ideal) w : S1024x256.Idx → EReal) = col w := by
  funext i
  unfold col
  pointwise [k0_pay2]

theorem pay3_eq (w : S1x1024.Idx → EReal) : (k0_pay3 (F := Ideal) w : S1024x256.Idx → EReal) = col w := by
  funext i
  unfold col
  pointwise [k0_pay3]

theorem pay1_apply (j : S1024x4096.Idx) : (k0_pay1 (F := Ideal) : S1024x4096.Idx → EReal) j = 0 := by
  pointwise [k0_pay1]

/-- What a point of the first product adds: both planes' products over the point's 256 columns, each row of the left
    factor times the row's scale. -/
theorem pay4_apply (a : S2x1024x256.Idx → EReal) (s : S2x256.Idx → EReal) (q : S1024x256.Idx → EReal) (w : S2x4096x256.Idx → EReal)
    (o : S1024x4096.Idx → EReal) (j : S1024x4096.Idx) :
    (k0_pay4 (F := Ideal) (View.ld (Val := Elt Ideal) (e' := .fp8e5m2) a (Rect.unit ![0, 0, 0] ![1, 1024, 256] inb_S2x1024x256_S1x1024x256_0_0_0))
      (View.ld (Val := Elt Ideal) (e' := .f32) s (Rect.unit ![0, 0] ![1, 256] inb_S2x256_S1x256_0_0)) q
      (View.ld (Val := Elt Ideal) (e' := .fp8e4m3) w (Rect.unit ![0, 0, 0] ![1, 4096, 256] inb_S2x4096x256_S1x4096x256_0_0_0))
      (View.ld (Val := Elt Ideal) (e' := .fp8e5m2) a (Rect.unit ![1, 0, 0] ![1, 1024, 256] inb_S2x1024x256_S1x1024x256_1_0_0))
      (View.ld (Val := Elt Ideal) (e' := .f32) s (Rect.unit ![1, 0] ![1, 256] inb_S2x256_S1x256_1_0)) q
      (View.ld (Val := Elt Ideal) (e' := .fp8e4m3) w (Rect.unit ![1, 0, 0] ![1, 4096, 256] inb_S2x4096x256_S1x4096x256_1_0_0)) o : S1024x4096.Idx → EReal) j
      = o j + (∑ x : Fin 256, a (ix3 0 (j 0) x) * s (ix2 0 x) * q (ix2 (j 0) x) * w (ix3 0 (j 1) x)
        + ∑ x : Fin 256, a (ix3 1 (j 0) x) * s (ix2 1 x) * q (ix2 (j 0) x) * w (ix3 1 (j 1) x)) := by
  pointwise [k0_pay4, dot_S1024x512_S4096x512_S1024x4096_1_1_0_0_n_n]

/-- What a point of the second product adds: the product over the point's 512 columns, each row of the left factor times
    the row's scale. -/
theorem pay5_apply (q : S1x1024.Idx → EReal) (a : S1024x512.Idx → EReal) (s : S1x512.Idx → EReal)
    (o : S1024x4096.Idx → EReal) (w : S4096x512.Idx → EReal) (j : S1024x4096.Idx) :
    (k0_pay5 (F := Ideal) (col q) a s o w : S1024x4096.Idx → EReal) j
      = o j + ∑ x : Fin 512, a (ix2 (j 0) x) * s (ix2 0 x) * q (ix2 0 (j 0)) * w (ix2 (j 1) x) := by
  pointwise [k0_pay5, col, dot_S1024x512_S4096x512_S1024x4096_1_1_0_0_n_n]
  exact congrArg (fun y : EReal => o j + y) (Fin.sum_univ_add (a := 256) (b := 256)
    fun x : Fin 512 => a (ix2 (j 0) x) * s (ix2 0 x) * q (ix2 0 (j 0)) * w (ix2 (j 1) x)).symm

variable (m : (ℓ : Loc nD τ sig) → Buf (Elt Ideal) ℓ) (ρ : Dev nD → PrngReg)

/-! ## What each case leaves -/

/-- The second product's points: the product is added to the output block, the two columns of scales stay. -/
theorem at_C (c : Dev nD) (t : Fin cfg0.N) (h0 : ¬t.val % 67 = 0) (h1 : ¬t.val % 67 ≤ 42) (h2 : 43 ≤ t.val % 67) :
    (outsAt0 m c t.val t.isLt).1 = k0_pay5 (F := Ideal) (outsAt0 m c (t.val - 1) (Nat.lt_of_le_of_lt (Nat.sub_le _ _) t.isLt)).2.2
      (iblk m c 4 t) (iblk m c 6 t) (outsAt0 m c (t.val - 1) (Nat.lt_of_le_of_lt (Nat.sub_le _ _) t.isLt)).1 (iblk m c 5 t)
    ∧ (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_C m c t h0 h1 h2]
  dsimp only
  refine ⟨?_, rfl, rfl⟩
  unfold out0_C_8
  rw [View.read_writes_eq_canon (h := fun y => cover0_C_8 ..)]
  unfold kernelRun0_C
  dsimp only
  sl_unfold_words
  rw [View.canon_unit_zero hz2]
  simp only [View.readAt_eq_ld, (hs0_4 t).read_unread, (hs0_5 t).read_unread, (hs0_6 t).read_unread, (hs0_8 t).read_unread,
    (Memref.isWhole_whole _).read_unread]
  rw [View.ld_unit_zero hz2, View.ld_unit_zero hz2, View.ld_unit_zero hz2, View.ld_unit_zero hz2, View.ld_unit_zero hz2]

/-- The first product's points but the first: the products are added to the output block, the two columns of scales stay. -/
theorem at_B (c : Dev nD) (t : Fin cfg0.N) (h0 : ¬t.val % 67 = 0) (h1 : t.val % 67 ≤ 42) (h2 : ¬43 ≤ t.val % 67) :
    (outsAt0 m c t.val t.isLt).1 = k0_pay4 (F := Ideal)
      (View.ld (iblk m c 0 t) (Rect.unit ![0, 0, 0] ![1, 1024, 256] inb_S2x1024x256_S1x1024x256_0_0_0))
      (View.ld (iblk m c 2 t) (Rect.unit ![0, 0] ![1, 256] inb_S2x256_S1x256_0_0))
      (outsAt0 m c (t.val - 1) (Nat.lt_of_le_of_lt (Nat.sub_le _ _) t.isLt)).2.1
      (View.ld (iblk m c 1 t) (Rect.unit ![0, 0, 0] ![1, 4096, 256] inb_S2x4096x256_S1x4096x256_0_0_0))
      (View.ld (iblk m c 0 t) (Rect.unit ![1, 0, 0] ![1, 1024, 256] inb_S2x1024x256_S1x1024x256_1_0_0))
      (View.ld (iblk m c 2 t) (Rect.unit ![1, 0] ![1, 256] inb_S2x256_S1x256_1_0))
      (outsAt0 m c (t.val - 1) (Nat.lt_of_le_of_lt (Nat.sub_le _ _) t.isLt)).2.1
      (View.ld (iblk m c 1 t) (Rect.unit ![1, 0, 0] ![1, 4096, 256] inb_S2x4096x256_S1x4096x256_1_0_0))
      (outsAt0 m c (t.val - 1) (Nat.lt_of_le_of_lt (Nat.sub_le _ _) t.isLt)).1
    ∧ (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0 h1 h2]
  dsimp only
  refine ⟨?_, rfl, rfl⟩
  unfold out0_B_8
  rw [View.read_writes_eq_canon (h := fun y => cover0_B_8 ..)]
  unfold kernelRun0_B
  dsimp only
  sl_unfold_words
  rw [View.canon_unit_zero hz2]
  simp only [View.readAt_eq_ld, (hs0_0 t).read_unread, (hs0_1 t).read_unread, (hs0_2 t).read_unread, (hs0_8 t).read_unread,
    (Memref.isWhole_whole _).read_unread]
  rw [View.ld_unit_zero (S := S1024x256) hz2, View.ld_unit_zero (S := S1024x4096) hz2]
  rfl

/-- The first point of each run: the products are added to zero, the two columns of scales are filled. -/
theorem at_A (c : Dev nD) (t : Fin cfg0.N) (h0 : t.val % 67 = 0) (h1 : t.val % 67 ≤ 42) (h2 : ¬43 ≤ t.val % 67) :
    (outsAt0 m c t.val t.isLt).1 = k0_pay4 (F := Ideal)
      (View.ld (iblk m c 0 t) (Rect.unit ![0, 0, 0] ![1, 1024, 256] inb_S2x1024x256_S1x1024x256_0_0_0))
      (View.ld (iblk m c 2 t) (Rect.unit ![0, 0] ![1, 256] inb_S2x256_S1x256_0_0))
      (k0_pay2 (F := Ideal) (iblk m c 3 t))
      (View.ld (iblk m c 1 t) (Rect.unit ![0, 0, 0] ![1, 4096, 256] inb_S2x4096x256_S1x4096x256_0_0_0))
      (View.ld (iblk m c 0 t) (Rect.unit ![1, 0, 0] ![1, 1024, 256] inb_S2x1024x256_S1x1024x256_1_0_0))
      (View.ld (iblk m c 2 t) (Rect.unit ![1, 0] ![1, 256] inb_S2x256_S1x256_1_0))
      (k0_pay2 (F := Ideal) (iblk m c 3 t))
      (View.ld (iblk m c 1 t) (Rect.unit ![1, 0, 0] ![1, 4096, 256] inb_S2x4096x256_S1x4096x256_1_0_0))
      (k0_pay1 (F := Ideal))
    ∧ (outsAt0 m c t.val t.isLt).2.1 = k0_pay2 (F := Ideal) (iblk m c 3 t)
    ∧ (outsAt0 m c t.val t.isLt).2.2 = k0_pay3 (F := Ideal) (iblk m c 7 t) := by
  rw [outsAt0_A m c t h0 h1 h2]
  dsimp only
  refine ⟨?_, ?_, ?_⟩
  · unfold out0_A_8
    rw [View.read_writes_eq_canon (h := fun y => cover0_A_8 ..)]
    unfold kernelRun0_A
    dsimp only
    sl_unfold_words
    rw [View.canon_cons_unit_zero hz2]
    simp only [View.readAt_eq_ld, (hs0_0 t).read_unread, (hs0_1 t).read_unread, (hs0_2 t).read_unread, (hs0_3 t).read_unread]
    rw [View.readCov_unit_zero (S := S1024x256) _ hz2, View.readCov_unit_zero (S := S1024x4096) _ hz2, View.ld_unit_zero (S := S1x1024) hz2]
    rfl
  · unfold sout0_A_0
    rw [View.read_writes_eq_canon (h := fun y => scover0_A_0 ..)]
    unfold kernelRun0_A
    dsimp only
    sl_unfold_words
    rw [View.canon_unit_zero hz2]
    simp only [View.readAt_eq_ld, (hs0_3 t).read_unread]
    rw [View.ld_unit_zero (S := S1x1024) hz2]
  · unfold sout0_A_1
    rw [View.read_writes_eq_canon (h := fun y => scover0_A_1 ..)]
    unfold kernelRun0_A
    dsimp only
    sl_unfold_words
    rw [View.canon_unit_zero hz2]
    simp only [View.readAt_eq_ld, (hs0_7 t).read_unread]
    rw [View.ld_unit_zero (S := S1x1024) hz2]

/-! ## The running sum -/

/-- Row `r` of the 1024 rows point `n` works on, as a row of the whole arrays. -/
def row (n : ℕ) (r : Fin 1024) : Fin 8192 := ⟨(1024 * (n / 67) + r.val) % 8192, Nat.mod_lt _ (by decide)⟩

/-- One term of the first product: plane `h`, result `(r, d)`, column `f`. -/
def t1 (A : S2x8192x11008.Idx → EReal) (s : S2x11008.Idx → EReal) (q : S1x8192.Idx → EReal) (W : S2x4096x11008.Idx → EReal)
    (h : Fin 2) (r : Fin 8192) (d : Fin 4096) (f : ℕ) : EReal :=
  A (ix3 h r ⟨f % 11008, Nat.mod_lt _ (by decide)⟩) * s (ix2 h ⟨f % 11008, Nat.mod_lt _ (by decide)⟩) * q (ix2 0 r)
    * W (ix3 h d ⟨f % 11008, Nat.mod_lt _ (by decide)⟩)

/-- One term of the second product: result `(r, d)`, column `f`. -/
def t2 (A : S8192x12288.Idx → EReal) (s : S1x12288.Idx → EReal) (q : S1x8192.Idx → EReal) (W : S4096x12288.Idx → EReal)
    (r : Fin 8192) (d : Fin 4096) (f : ℕ) : EReal :=
  A (ix2 r ⟨f % 12288, Nat.mod_lt _ (by decide)⟩) * s (ix2 0 ⟨f % 12288, Nat.mod_lt _ (by decide)⟩) * q (ix2 0 r)
    * W (ix2 d ⟨f % 12288, Nat.mod_lt _ (by decide)⟩)

/-- What point `k` of a run of 67 adds to result `(r, d)`. -/
def step (A : S2x8192x11008.Idx → EReal) (s : S2x11008.Idx → EReal) (q : S1x8192.Idx → EReal) (W : S2x4096x11008.Idx → EReal)
    (A' : S8192x12288.Idx → EReal) (s' : S1x12288.Idx → EReal) (q' : S1x8192.Idx → EReal) (W' : S4096x12288.Idx → EReal)
    (r : Fin 8192) (d : Fin 4096) (k : ℕ) : EReal :=
  if k < 43 then ∑ x : Fin 256, t1 A s q W 0 r d (256 * k + x.val) + ∑ x : Fin 256, t1 A s q W 1 r d (256 * k + x.val)
  else ∑ x : Fin 512, t2 A' s' q' W' r d (512 * (k - 43) + x.val)

/-- The index maps: the row block is the run's, the column block the point's number in its run of either product. -/
theorem idx_facts : ∀ t : Fin cfg0.N,
    (win0_0.index t (0 : Fin 3) = 0 ∧ win0_0.index t (1 : Fin 3) = t.val / 67 ∧ (t.val % 67 ≤ 42 → win0_0.index t (2 : Fin 3) = t.val % 67))
    ∧ (win0_1.index t (0 : Fin 3) = 0 ∧ win0_1.index t (1 : Fin 3) = 0 ∧ (t.val % 67 ≤ 42 → win0_1.index t (2 : Fin 3) = t.val % 67))
    ∧ (win0_2.index t (0 : Fin 2) = 0 ∧ (t.val % 67 ≤ 42 → win0_2.index t (1 : Fin 2) = t.val % 67))
    ∧ (win0_3.index t (0 : Fin 2) = 0 ∧ win0_3.index t (1 : Fin 2) = t.val / 67)
    ∧ (win0_4.index t (0 : Fin 2) = t.val / 67 ∧ (43 ≤ t.val % 67 → win0_4.index t (1 : Fin 2) = t.val % 67 - 43))
    ∧ (win0_5.index t (0 : Fin 2) = 0 ∧ (43 ≤ t.val % 67 → win0_5.index t (1 : Fin 2) = t.val % 67 - 43))
    ∧ (win0_6.index t (0 : Fin 2) = 0 ∧ (43 ≤ t.val % 67 → win0_6.index t (1 : Fin 2) = t.val % 67 - 43))
    ∧ (win0_7.index t (0 : Fin 2) = 0 ∧ win0_7.index t (1 : Fin 2) = t.val / 67)
    ∧ (win0_8.index t (0 : Fin 2) = t.val / 67 ∧ win0_8.index t (1 : Fin 2) = 0) :=
  (by decide +kernel : ∀ t : Fin grid0.N, _)

theorem point_lt (t : Fin cfg0.N) : t.val < 536 := lt_of_lt_of_eq t.isLt (show cfg0.N = 536 from N_0)

/-- The scales of the first product's rows, at a point: the scales of the rows the point works on. -/
theorem blk3 (c : Dev nD) (t : Fin cfg0.N) (r : Fin 1024) :
    (iblk m c 3 t : S1x1024.Idx → EReal) (ix2 0 r) = (V m c main_arg1 : S1x8192.Idx → EReal) (ix2 0 (row t.val r)) := by
  obtain ⟨-, -, -, ⟨e0, e1⟩, -⟩ := idx_facts t
  have hN := point_lt t
  have hr := r.isLt
  show V m c main_arg1 (((cfg0.win 3).blk t).view.emb (ix2 0 r : S1x1024.Idx)) = _
  refine congrArg (V m c main_arg1) (Shape.idx_ext₂ ?_ ?_)
  · show win0_3.index t (0 : Fin 2) * 1 + 1 * 0 = 0
    omega
  · show win0_3.index t (1 : Fin 2) * 1024 + 1 * r.val = (1024 * (t.val / 67) + r.val) % 8192
    omega

theorem blk7 (c : Dev nD) (t : Fin cfg0.N) (r : Fin 1024) :
    (iblk m c 7 t : S1x1024.Idx → EReal) (ix2 0 r) = (V m c main_arg3 : S1x8192.Idx → EReal) (ix2 0 (row t.val r)) := by
  obtain ⟨-, -, -, -, -, -, -, ⟨e0, e1⟩, -⟩ := idx_facts t
  have hN := point_lt t
  have hr := r.isLt
  show V m c main_arg3 (((cfg0.win 7).blk t).view.emb (ix2 0 r : S1x1024.Idx)) = _
  refine congrArg (V m c main_arg3) (Shape.idx_ext₂ ?_ ?_)
  · show win0_7.index t (0 : Fin 2) * 1 + 1 * 0 = 0
    omega
  · show win0_7.index t (1 : Fin 2) * 1024 + 1 * r.val = (1024 * (t.val / 67) + r.val) % 8192
    omega

/-- The left factors of the first product, at a point. -/
theorem blk0 (c : Dev nD) (t : Fin cfg0.N) (h1 : t.val % 67 ≤ 42) (h : Fin 2) (r : Fin 1024) (x : Fin 256) :
    (iblk m c 0 t : S2x1024x256.Idx → EReal) (ix3 h r x)
      = (V m c main_arg0 : S2x8192x11008.Idx → EReal) (ix3 h (row t.val r) ⟨(256 * (t.val % 67) + x.val) % 11008, Nat.mod_lt _ (by decide)⟩) := by
  obtain ⟨⟨e0, e1, e2⟩, -⟩ := idx_facts t
  have e2 := e2 h1
  have hN := point_lt t
  have hr := r.isLt
  have hx := x.isLt
  show V m c main_arg0 (((cfg0.win 0).blk t).view.emb (ix3 h r x : S2x1024x256.Idx)) = _
  refine congrArg (V m c main_arg0) (idx_ext₃ ?_ ?_ ?_)
  · show win0_0.index t (0 : Fin 3) * 2 + 1 * h.val = h.val
    omega
  · show win0_0.index t (1 : Fin 3) * 1024 + 1 * r.val = (1024 * (t.val / 67) + r.val) % 8192
    omega
  · show win0_0.index t (2 : Fin 3) * 256 + 1 * x.val = (256 * (t.val % 67) + x.val) % 11008
    omega

/-- The right factors of the first product, at a point. -/
theorem blk1 (c : Dev nD) (t : Fin cfg0.N) (h1 : t.val % 67 ≤ 42) (h : Fin 2) (d : Fin 4096) (x : Fin 256) :
    (iblk m c 1 t : S2x4096x256.Idx → EReal) (ix3 h d x)
      = (V m c main_v0 : S2x4096x11008.Idx → EReal) (ix3 h d ⟨(256 * (t.val % 67) + x.val) % 11008, Nat.mod_lt _ (by decide)⟩) := by
  obtain ⟨-, ⟨e0, e1, e2⟩, -⟩ := idx_facts t
  have e2 := e2 h1
  have hN := point_lt t
  have hx := x.isLt
  show V m c main_v0 (((cfg0.win 1).blk t).view.emb (ix3 h d x : S2x4096x256.Idx)) = _
  refine congrArg (V m c main_v0) (idx_ext₃ ?_ ?_ ?_)
  · show win0_1.index t (0 : Fin 3) * 2 + 1 * h.val = h.val
    omega
  · show win0_1.index t (1 : Fin 3) * 4096 + 1 * d.val = d.val
    omega
  · show win0_1.index t (2 : Fin 3) * 256 + 1 * x.val = (256 * (t.val % 67) + x.val) % 11008
    omega

/-- The scales of the first product's columns, at a point. -/
theorem blk2 (c : Dev nD) (t : Fin cfg0.N) (h1 : t.val % 67 ≤ 42) (h : Fin 2) (x : Fin 256) :
    (iblk m c 2 t : S2x256.Idx → EReal) (ix2 h x)
      = (V m c main_arg5 : S2x11008.Idx → EReal) (ix2 h ⟨(256 * (t.val % 67) + x.val) % 11008, Nat.mod_lt _ (by decide)⟩) := by
  obtain ⟨-, -, ⟨e0, e1⟩, -⟩ := idx_facts t
  have e1 := e1 h1
  have hN := point_lt t
  have hx := x.isLt
  show V m c main_arg5 (((cfg0.win 2).blk t).view.emb (ix2 h x : S2x256.Idx)) = _
  refine congrArg (V m c main_arg5) (Shape.idx_ext₂ ?_ ?_)
  · show win0_2.index t (0 : Fin 2) * 2 + 1 * h.val = h.val
    omega
  · show win0_2.index t (1 : Fin 2) * 256 + 1 * x.val = (256 * (t.val % 67) + x.val) % 11008
    omega

/-- The left factors of the second product, at a point. -/
theorem blk4 (c : Dev nD) (t : Fin cfg0.N) (h2 : 43 ≤ t.val % 67) (r : Fin 1024) (x : Fin 512) :
    (iblk m c 4 t : S1024x512.Idx → EReal) (ix2 r x)
      = (V m c main_v1 : S8192x12288.Idx → EReal) (ix2 (row t.val r) ⟨(512 * (t.val % 67 - 43) + x.val) % 12288, Nat.mod_lt _ (by decide)⟩) := by
  obtain ⟨-, -, -, -, ⟨e0, e1⟩, -⟩ := idx_facts t
  have e1 := e1 h2
  have hN := point_lt t
  have hr := r.isLt
  have hx := x.isLt
  show V m c main_v1 (((cfg0.win 4).blk t).view.emb (ix2 r x : S1024x512.Idx)) = _
  refine congrArg (V m c main_v1) (Shape.idx_ext₂ ?_ ?_)
  · show win0_4.index t (0 : Fin 2) * 1024 + 1 * r.val = (1024 * (t.val / 67) + r.val) % 8192
    omega
  · show win0_4.index t (1 : Fin 2) * 512 + 1 * x.val = (512 * (t.val % 67 - 43) + x.val) % 12288
    omega

/-- The right factors of the second product, at a point. -/
theorem blk5 (c : Dev nD) (t : Fin cfg0.N) (h2 : 43 ≤ t.val % 67) (d : Fin 4096) (x : Fin 512) :
    (iblk m c 5 t : S4096x512.Idx → EReal) (ix2 d x)
      = (V m c main_v2 : S4096x12288.Idx → EReal) (ix2 d ⟨(512 * (t.val % 67 - 43) + x.val) % 12288, Nat.mod_lt _ (by decide)⟩) := by
  obtain ⟨-, -, -, -, -, ⟨e0, e1⟩, -⟩ := idx_facts t
  have e1 := e1 h2
  have hN := point_lt t
  have hx := x.isLt
  show V m c main_v2 (((cfg0.win 5).blk t).view.emb (ix2 d x : S4096x512.Idx)) = _
  refine congrArg (V m c main_v2) (Shape.idx_ext₂ ?_ ?_)
  · show win0_5.index t (0 : Fin 2) * 4096 + 1 * d.val = d.val
    omega
  · show win0_5.index t (1 : Fin 2) * 512 + 1 * x.val = (512 * (t.val % 67 - 43) + x.val) % 12288
    omega

/-- The scales of the second product's columns, at a point. -/
theorem blk6 (c : Dev nD) (t : Fin cfg0.N) (h2 : 43 ≤ t.val % 67) (x : Fin 512) :
    (iblk m c 6 t : S1x512.Idx → EReal) (ix2 0 x)
      = (V m c main_v3 : S1x12288.Idx → EReal) (ix2 0 ⟨(512 * (t.val % 67 - 43) + x.val) % 12288, Nat.mod_lt _ (by decide)⟩) := by
  obtain ⟨-, -, -, -, -, -, ⟨e0, e1⟩, -⟩ := idx_facts t
  have e1 := e1 h2
  have hN := point_lt t
  have hx := x.isLt
  show V m c main_v3 (((cfg0.win 6).blk t).view.emb (ix2 0 x : S1x512.Idx)) = _
  refine congrArg (V m c main_v3) (Shape.idx_ext₂ ?_ ?_)
  · show win0_6.index t (0 : Fin 2) * 1 + 1 * 0 = 0
    omega
  · show win0_6.index t (1 : Fin 2) * 512 + 1 * x.val = (512 * (t.val % 67 - 43) + x.val) % 12288
    omega

/-- What a point of a run adds to result `(r, d)`, over the arrays the region finds. -/
def stepV (c : Dev nD) (r : Fin 8192) (d : Fin 4096) (k : ℕ) : EReal :=
  step (V m c main_arg0) (V m c main_arg5) (V m c main_arg1) (V m c main_v0) (V m c main_v1) (V m c main_v3) (V m c main_arg3)
    (V m c main_v2) r d k

/-- A point of the first product adds its step. -/
theorem add_first (c : Dev nD) (t : Fin cfg0.N) (h1 : t.val % 67 ≤ 42) (q : S1024x256.Idx → EReal)
    (hq : ∀ r x, q (ix2 r x) = (V m c main_arg1 : S1x8192.Idx → EReal) (ix2 0 (row t.val r))) (o : S1024x4096.Idx → EReal) (j : S1024x4096.Idx) :
    (k0_pay4 (F := Ideal)
      (View.ld (iblk m c 0 t) (Rect.unit ![0, 0, 0] ![1, 1024, 256] inb_S2x1024x256_S1x1024x256_0_0_0))
      (View.ld (iblk m c 2 t) (Rect.unit ![0, 0] ![1, 256] inb_S2x256_S1x256_0_0)) q
      (View.ld (iblk m c 1 t) (Rect.unit ![0, 0, 0] ![1, 4096, 256] inb_S2x4096x256_S1x4096x256_0_0_0))
      (View.ld (iblk m c 0 t) (Rect.unit ![1, 0, 0] ![1, 1024, 256] inb_S2x1024x256_S1x1024x256_1_0_0))
      (View.ld (iblk m c 2 t) (Rect.unit ![1, 0] ![1, 256] inb_S2x256_S1x256_1_0)) q
      (View.ld (iblk m c 1 t) (Rect.unit ![1, 0, 0] ![1, 4096, 256] inb_S2x4096x256_S1x4096x256_1_0_0)) o : S1024x4096.Idx → EReal) j
      = o j + stepV m c (row t.val (j 0)) (j 1) (t.val % 67) := by
  refine (pay4_apply (iblk m c 0 t) (iblk m c 2 t) q (iblk m c 1 t) o j).trans (congrArg (fun y : EReal => o j + y) ?_)
  unfold stepV step
  rw [if_pos (by omega)]
  unfold t1
  refine congrArg₂ (fun a b : EReal => a + b) (Finset.sum_congr rfl fun x _ => ?_) (Finset.sum_congr rfl fun x _ => ?_)
  · exact congrArg₂ (fun a b : EReal => a * b) (congrArg₂ (fun a b : EReal => a * b) (congrArg₂ (fun a b : EReal => a * b)
      (blk0 m c t h1 0 (j 0) x) (blk2 m c t h1 0 x)) (hq (j 0) x)) (blk1 m c t h1 0 (j 1) x)
  · exact congrArg₂ (fun a b : EReal => a * b) (congrArg₂ (fun a b : EReal => a * b) (congrArg₂ (fun a b : EReal => a * b)
      (blk0 m c t h1 1 (j 0) x) (blk2 m c t h1 1 x)) (hq (j 0) x)) (blk1 m c t h1 1 (j 1) x)

/-- A point of the second product adds its step. -/
theorem add_second (c : Dev nD) (t : Fin cfg0.N) (h2 : 43 ≤ t.val % 67) (o : S1024x4096.Idx → EReal) (j : S1024x4096.Idx) :
    (k0_pay5 (F := Ideal) (col fun i => (V m c main_arg3 : S1x8192.Idx → EReal) (ix2 0 (row t.val (i 1)))) (iblk m c 4 t) (iblk m c 6 t) o (iblk m c 5 t)
      : S1024x4096.Idx → EReal) j = o j + stepV m c (row t.val (j 0)) (j 1) (t.val % 67) := by
  refine (pay5_apply _ (iblk m c 4 t) (iblk m c 6 t) o (iblk m c 5 t) j).trans (congrArg (fun y : EReal => o j + y) ?_)
  unfold stepV step
  rw [if_neg (by omega)]
  unfold t2
  refine Finset.sum_congr rfl fun x _ => ?_
  exact congrArg₂ (fun a b : EReal => a * b) (congrArg (fun a : EReal => a * _) (congrArg₂ (fun a b : EReal => a * b)
      (blk4 m c t h2 (j 0) x) (blk6 m c t h2 x))) (blk5 m c t h2 (j 1) x)

/-- After point `n`: the output block holds the sum of the run's steps so far, the two scratches the rows' scales. -/
theorem outsAt_eq (c : Dev nD) : ∀ (n : ℕ) (hn : n < cfg0.N),
    ((outsAt0 m c n hn).1 : S1024x4096.Idx → EReal) = (fun j => ∑ k ∈ Finset.range (n % 67 + 1), stepV m c (row n (j 0)) (j 1) k)
    ∧ ((outsAt0 m c n hn).2.1 : S1024x256.Idx → EReal) = (col fun i => (V m c main_arg1 : S1x8192.Idx → EReal) (ix2 0 (row n (i 1))))
    ∧ ((outsAt0 m c n hn).2.2 : S1024x256.Idx → EReal) = (col fun i => (V m c main_arg3 : S1x8192.Idx → EReal) (ix2 0 (row n (i 1)))) := by
  intro n
  induction n with
  | zero =>
    intro hn
    exact first ⟨0, hn⟩ rfl
  | succ n ih =>
    intro hn
    have hN := point_lt ⟨n + 1, hn⟩
    by_cases h0 : (n + 1) % 67 = 0
    · exact first ⟨n + 1, hn⟩ h0
    · obtain ⟨i1, i2, i3⟩ := ih (Nat.lt_of_succ_lt hn)
      have hrow : row n = row (n + 1) := by
        funext r
        apply Fin.ext
        show (1024 * (n / 67) + r.val) % 8192 = (1024 * ((n + 1) / 67) + r.val) % 8192
        have : n / 67 = (n + 1) / 67 := by omega
        rw [this]
      have hk : (n + 1) % 67 = n % 67 + 1 := by omega
      rw [hrow] at i1 i2 i3
      by_cases h1 : (n + 1) % 67 ≤ 42
      · obtain ⟨e1, e2, e3⟩ := at_B m c ⟨n + 1, hn⟩ h0 h1 (by show ¬43 ≤ (n + 1) % 67; omega)
        refine ⟨?_, e2.trans i2, e3.trans i3⟩
        refine e1.trans ?_
        funext j
        refine (add_first m c ⟨n + 1, hn⟩ h1 _ (fun r x => congrFun i2 _) _ j).trans ?_
        rw [Finset.sum_range_succ, hk]
        exact congrArg (fun y : EReal => y + _) (congrFun i1 j)
      · obtain ⟨e1, e2, e3⟩ := at_C m c ⟨n + 1, hn⟩ h0 h1 (by show 43 ≤ (n + 1) % 67; omega)
        refine ⟨?_, e2.trans i2, e3.trans i3⟩
        refine e1.trans ?_
        funext j
        have e : (outsAt0 m c n (Nat.lt_of_succ_lt hn)).2.2 = (col fun i => (V m c main_arg3 : S1x8192.Idx → EReal) (ix2 0 (row (n + 1) (i 1)))) := i3
        show (k0_pay5 (F := Ideal) (outsAt0 m c n (Nat.lt_of_succ_lt hn)).2.2 _ _ _ _ : S1024x4096.Idx → EReal) j = _
        rw [e]
        refine (add_second m c ⟨n + 1, hn⟩ (by show 43 ≤ (n + 1) % 67; omega) _ j).trans ?_
        rw [Finset.sum_range_succ, hk]
        exact congrArg (fun y : EReal => y + _) (congrFun i1 j)
where
  first (t : Fin cfg0.N) (h0 : t.val % 67 = 0) :
    ((outsAt0 m c t.val t.isLt).1 : S1024x4096.Idx → EReal) = (fun j => ∑ k ∈ Finset.range (t.val % 67 + 1), stepV m c (row t.val (j 0)) (j 1) k)
    ∧ ((outsAt0 m c t.val t.isLt).2.1 : S1024x256.Idx → EReal) = (col fun i => (V m c main_arg1 : S1x8192.Idx → EReal) (ix2 0 (row t.val (i 1))))
    ∧ ((outsAt0 m c t.val t.isLt).2.2 : S1024x256.Idx → EReal) = (col fun i => (V m c main_arg3 : S1x8192.Idx → EReal) (ix2 0 (row t.val (i 1)))) := by
    obtain ⟨e1, e2, e3⟩ := at_A m c t h0 (by omega) (by omega)
    refine ⟨?_, ?_, ?_⟩
    · refine e1.trans ?_
      funext j
      refine (add_first m c t (by omega) _ (fun r x => ?_) _ j).trans ?_
      · exact (congrFun (pay2_eq (iblk m c 3 t)) (ix2 r x)).trans (blk3 m c t r)
      · rw [h0, Finset.sum_range_one, pay1_apply, zero_add]
    · refine (e2.trans (pay2_eq (iblk m c 3 t))).trans ?_
      funext i
      exact blk3 m c t (i 0)
    · refine (e3.trans (pay3_eq (iblk m c 7 t))).trans ?_
      funext i
      exact blk7 m c t (i 0)

/-! ## The array after the run -/

/-- The result from the arrays the region finds: the 67 steps added up. -/
def total (c : Dev nD) : S8192x4096.Idx → EReal := fun i => ∑ k ∈ Finset.range 67, stepV m c (i 0) (i 1) k

/-- Reading an array through the output block, at an index. -/
theorem read8 (G : S8192x4096.Idx → EReal) (t : Fin cfg0.N) (j : S1024x4096.Idx) :
    ((cfg0.win 8).blk t).view.read (Elt Ideal) G j = G (((cfg0.win 8).blk t).view.emb j) := rfl

theorem flushed_eq (c : Dev nD) (t : Fin cfg0.N) (hf : (cfg0.win 8).flush t = true) :
    (dats m 0 c).flushed 8 t = ((cfg0.win 8).blk t).view.read (Elt Ideal) (total m c) := by
  show (cfg0.win 8).cut (grid0.coords t) ((dats m 0 c).after 8 t) = _
  rw [after0_8]
  have hm : t.val % 67 = 66 := (flush0_8 t).mp hf
  have hN := point_lt t
  obtain ⟨-, -, -, -, -, -, -, -, e0, e1⟩ := idx_facts t
  funext (j : S1024x4096.Idx)
  refine (congrFun (outsAt_eq m c t.val t.isLt).1 j).trans ?_
  refine Eq.trans ?_ (read8 (total m c) t j).symm
  have h0 : (j 0 : Nat) < 1024 := (j 0).isLt
  have er : row t.val (j 0) = (((cfg0.win 8).blk t).view.emb j : S8192x4096.Idx) 0 := by
    apply Fin.ext
    show (1024 * (t.val / 67) + (j 0).val) % 8192 = win0_8.index t (0 : Fin 2) * 1024 + 1 * (j 0).val
    omega
  have ed : (j 1 : Fin 4096) = (((cfg0.win 8).blk t).view.emb j : S8192x4096.Idx) 1 := by
    apply Fin.ext
    show (j 1).val = win0_8.index t (1 : Fin 2) * 4096 + 1 * (j 1).val
    omega
  unfold total
  rw [← er, ← ed]
  rw [hm]

theorem covered (i : S8192x4096.Idx) : ∃ t : Fin cfg0.N, (cfg0.win 8).flush t = true ∧ i ∈ ((cfg0.win 8).blk t).view.set := by
  have h0 : (i 0 : Nat) < 8192 := (i 0).isLt
  have h1 : (i 1 : Nat) < 4096 := (i 1).isLt
  have ht : 67 * ((i 0 : Nat) / 1024) + 66 < cfg0.N := lt_of_lt_of_eq (by omega) (show 536 = cfg0.N from N_0.symm)
  refine ⟨⟨67 * ((i 0 : Nat) / 1024) + 66, ht⟩, (flush0_8 _).mpr (by show (67 * ((i 0 : Nat) / 1024) + 66) % 67 = 66; omega), ?_⟩
  obtain ⟨-, -, -, -, -, -, -, -, e0, e1⟩ := idx_facts ⟨67 * ((i 0 : Nat) / 1024) + 66, ht⟩
  generalize hT : (⟨67 * ((i 0 : Nat) / 1024) + 66, ht⟩ : Fin cfg0.N) = t at e0 e1
  have e2 : t.val = 67 * ((i 0 : Nat) / 1024) + 66 := by rw [← hT]
  show i ∈ ((View.whole main_v4).slice (win0_8.rect t)).set
  rw [View.set_slice_whole, Rect.mem_set_unit]
  intro a
  match a with
  | ⟨0, _⟩ => show win0_8.index t (0 : Fin 2) * 1024 ≤ (i 0 : Nat) ∧ (i 0 : Nat) < win0_8.index t (0 : Fin 2) * 1024 + 1024
              omega
  | ⟨1, _⟩ => show win0_8.index t (1 : Fin 2) * 4096 ≤ (i 1 : Nat) ∧ (i 1 : Nat) < win0_8.index t (1 : Fin 2) * 4096 + 4096
              omega

/-- The array the program leaves, from the arrays the region finds. -/
theorem final (c : Dev nD) : (dats m 0 c).arrAt 8 cfg0.N = total m c :=
  (dats m 0 c).arrAt_eq_of_cover 8 (total m c) (fun t hf => flushed_eq m c t hf) covered

/-! ## In terms of the arguments -/

theorem V_v0 (c : Dev nD) : V m c main_v0 = transpose S2x4096x11008 [1, 0, 2] (m ((c : Thread nD τ).loc main_arg4)) transposes_S4096x2x11008_S2x4096x11008_1_0_2 := by
  show StableHlo.after hostOps0 (fun b => m (c, b)) _ = _
  after_results
  try rfl

theorem V_v1 (c : Dev nD) : V m c main_v1 = shapeCast S8192x12288 (m ((c : Thread nD τ).loc main_arg2)) shapeCasts_S1x8192x3x32x128_S8192x12288 := by
  show StableHlo.after hostOps0 (fun b => m (c, b)) _ = _
  after_results
  try rfl

theorem V_v2 (c : Dev nD) : V m c main_v2 = shapeCast S4096x12288 (m ((c : Thread nD τ).loc main_arg6)) shapeCasts_S4096x3x32x128_S4096x12288 := by
  show StableHlo.after hostOps0 (fun b => m (c, b)) _ = _
  after_results
  try rfl

theorem V_v3 (c : Dev nD) : V m c main_v3 = shapeCast S1x12288 (m ((c : Thread nD τ).loc main_arg7)) shapeCasts_S3x32x128_S1x12288 := by
  show StableHlo.after hostOps0 (fun b => m (c, b)) _ = _
  after_results
  try rfl

/-- The result from the argument arrays. -/
def out (A : S2x8192x11008.Idx → EReal) (q : S1x8192.Idx → EReal) (A' : S1x8192x3x32x128.Idx → EReal) (q' : S1x8192.Idx → EReal)
    (W : S4096x2x11008.Idx → EReal) (s : S2x11008.Idx → EReal) (W' : S4096x3x32x128.Idx → EReal) (s' : S3x32x128.Idx → EReal) :
    S8192x4096.Idx → EReal :=
  fun i => ∑ k ∈ Finset.range 67, step A s q (transpose S2x4096x11008 [1, 0, 2] W transposes_S4096x2x11008_S2x4096x11008_1_0_2)
    (shapeCast S8192x12288 A' shapeCasts_S1x8192x3x32x128_S8192x12288) (shapeCast S1x12288 s' shapeCasts_S3x32x128_S1x12288) q'
    (shapeCast S4096x12288 W' shapeCasts_S4096x3x32x128_S4096x12288) (i 0) (i 1) k

/-- The array the program leaves, from its arguments. -/
theorem value (c : Dev nD) :
    (dats m 0 c).arrAt 8 cfg0.N = out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [final]
  unfold total stepV
  rw [V_main_arg0, V_main_arg1, V_main_arg3, V_main_arg5, V_v0, V_v1, V_v2, V_v3]
  rfl

/-! ## The run -/

/-- The run, read: the result array is what `value` names, the arguments stay. -/
theorem run : θ_run defs (onTc (τ := τ) (main (F := Ideal))) ⟨m, fun _ => 0, ρ⟩ fun r => ∀ c : Dev nD,
      r.2.mem ((c : Thread nD τ).loc main_v4) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.DhIdeal.Hand

end
-- ==== Proof.DhAlgebra.lean ====
/-
  The algebraic claim of `DhIdeal` against `DhRefIdeal` (hand-written, untrusted): what the reference leaves in its
  output array, from its arguments; and that both results are the same sum — the kernel adds the products block of columns
  by block of columns, each term times its row's scale; the reference takes each product over all the columns at once and
  multiplies the sum by the row's scale. The two agree because the scales are nonnegative and finite.
-/
module

public import proofs.«01_k».proof.Defs
public import proofs.«01_k».proof.Proof.DhValue
public import proofs.«01_k».proof.Proof.Gen.DhRefIdeal.Value

@[expose] public section

noncomputable section

namespace Cert.DhRefIdeal.Hand

open Cert.DhRefIdeal Cert.DhRefIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

variable (m : (ℓ : Loc nD τ sig) → Buf (Elt Ideal) ℓ) (ρ : Dev nD → PrngReg)

/-! ## Every block of the one grid point is its whole array -/

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x8192x11008.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 8192 + 1 * (j 1).val = (j 1).val; omega
  | ⟨2, _⟩ => show win0_0.index t (2 : Fin 3) * 11008 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S8192x12288.Idx) : ((cfg0.win 2).blk t).view.emb j = j := by
  obtain ⟨e0, e1⟩ := idx_zero2 t
  funext a; apply Fin.ext
  match a with
  | ⟨0, _⟩ => show win0_2.index t (0 : Fin 2) * 8192 + 1 * (j 0).val = (j 0).val; omega
  | ⟨1, _⟩ => show win0_2.index t (1 : Fin 2) * 12288 + 1 * (j 1).val = (j 1).val; omega

/-- Input window 2's block at the point is its array as the region finds it. -/
theorem iblk2_eq (c : Dev nD) (t : Fin cfg0.N) : iblk m c 2 t = V m c main_v0 := by
  funext j; show V m c main_v0 (((cfg0.win 2).blk t).view.emb j) = V m c main_v0 j; rw [emb2]

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x8192.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4096x2x11008.Idx) : ((cfg0.win 4).blk t).view.emb j = j := by
  obtain ⟨e0, e1, e2⟩ := idx_zero4 t
  funext a; apply Fin.ext
  match a with
  | ⟨0, _⟩ => show win0_4.index t (0 : Fin 3) * 4096 + 1 * (j 0).val = (j 0).val; omega
  | ⟨1, _⟩ => show win0_4.index t (1 : Fin 3) * 2 + 1 * (j 1).val = (j 1).val; omega
  | ⟨2, _⟩ => show win0_4.index t (2 : Fin 3) * 11008 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2x11008.Idx) : ((cfg0.win 5).blk t).view.emb j = j := by
  obtain ⟨e0, e1⟩ := idx_zero5 t
  funext a; apply Fin.ext
  match a with
  | ⟨0, _⟩ => show win0_5.index t (0 : Fin 2) * 2 + 1 * (j 0).val = (j 0).val; omega
  | ⟨1, _⟩ => show win0_5.index t (1 : Fin 2) * 11008 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S4096x12288.Idx) : ((cfg0.win 6).blk t).view.emb j = j := by
  obtain ⟨e0, e1⟩ := idx_zero6 t
  funext a; apply Fin.ext
  match a with
  | ⟨0, _⟩ => show win0_6.index t (0 : Fin 2) * 4096 + 1 * (j 0).val = (j 0).val; omega
  | ⟨1, _⟩ => show win0_6.index t (1 : Fin 2) * 12288 + 1 * (j 1).val = (j 1).val; omega

/-- Input window 6's block at the point is its array as the region finds it. -/
theorem iblk6_eq (c : Dev nD) (t : Fin cfg0.N) : iblk m c 6 t = V m c main_v1 := by
  funext j; show V m c main_v1 (((cfg0.win 6).blk t).view.emb j) = V m c main_v1 j; rw [emb6]

theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x12288.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 12288 + 1 * (j 1).val = (j 1).val; omega

/-- Input window 7's block at the point is its array as the region finds it. -/
theorem iblk7_eq (c : Dev nD) (t : Fin cfg0.N) : iblk m c 7 t = V m c main_v2 := by
  funext j; show V m c main_v2 (((cfg0.win 7).blk t).view.emb j) = V m c main_v2 j; rw [emb7]

theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S8192x4096.Idx) : ((cfg0.win 8).blk t).view.emb j = j := by
  obtain ⟨e0, e1⟩ := idx_zero8 t
  funext a; apply Fin.ext
  match a with
  | ⟨0, _⟩ => show win0_8.index t (0 : Fin 2) * 8192 + 1 * (j 0).val = (j 0).val; omega
  | ⟨1, _⟩ => show win0_8.index t (1 : Fin 2) * 4096 + 1 * (j 1).val = (j 1).val; omega

/-! ## The array after the run -/

/-- The reference's result: the two planes' products over the columns, times the rows' scales, and the second product,
    times its rows' scales. -/
def outRef (A : S2x8192x11008.Idx → EReal) (q : S1x8192.Idx → EReal) (A' : S8192x12288.Idx → EReal) (q' : S1x8192.Idx → EReal)
    (W : S4096x2x11008.Idx → EReal) (s : S2x11008.Idx → EReal) (W' : S4096x12288.Idx → EReal) (s' : S1x12288.Idx → EReal) :
    S8192x4096.Idx → EReal :=
  fun i => (∑ f : Fin 11008, A (ix3 0 (i 0) f) * (W (ix3 (i 1) 0 f) * s (ix2 0 f))
      + ∑ f : Fin 11008, A (ix3 1 (i 0) f) * (W (ix3 (i 1) 1 f) * s (ix2 1 f))) * q (ix2 0 (i 0))
    + (∑ n : Fin 12288, A' (ix2 (i 0) n) * (W' (ix2 (i 1) n) * s' (ix2 0 n))) * q' (ix2 0 (i 0))

theorem pay_apply (A : S2x8192x11008.Idx → EReal) (q : S1x8192.Idx → EReal) (A' : S8192x12288.Idx → EReal) (q' : S1x8192.Idx → EReal)
    (W : S4096x2x11008.Idx → EReal) (s : S2x11008.Idx → EReal) (W' : S4096x12288.Idx → EReal) (s' : S1x12288.Idx → EReal) (j : S8192x4096.Idx) :
    (k0_pay1 (F := Ideal) (k0_pay2 (View.ld (Val := Elt Ideal) (e' := .fp8e4m3) W r0_0) (View.ld (Val := Elt Ideal) (e' := .f32) s r0_1)
        (View.ld (Val := Elt Ideal) (e' := .fp8e5m2) A r0_2) (View.ld (Val := Elt Ideal) (e' := .fp8e4m3) W r0_3)
        (View.ld (Val := Elt Ideal) (e' := .f32) s r0_4) (View.ld (Val := Elt Ideal) (e' := .fp8e5m2) A r0_5) q)
      (k0_pay3 W') s' A' q' : S8192x4096.Idx → EReal) j = outRef A q A' q' W s W' s' j := by
  unfold outRef
  pointwise [k0_pay1, k0_pay2, k0_pay3, dot_S8192x11008_S4096x11008_S8192x4096_1_1_0_0_n_n, dot_S8192x12288_S4096x12288_S8192x4096_1_1_0_0_n_n]

theorem out0_eq (A : S2x8192x11008.Idx → EReal) (q : S1x8192.Idx → EReal) (A' : S8192x12288.Idx → EReal) (q' : S1x8192.Idx → EReal)
    (W : S4096x2x11008.Idx → EReal) (s : S2x11008.Idx → EReal) (W' : S4096x12288.Idx → EReal) (s' : S1x12288.Idx → EReal) :
    (out0_8 (F := Ideal) A q A' q' W s W' s' : S8192x4096.Idx → EReal) = outRef A q A' q' W s W' s' := by
  unfold out0_8
  rw [View.ld_unit_zero (S := S1x8192) hz2, View.ld_unit_zero (S := S4096x12288) hz2, View.ld_unit_zero (S := S1x12288) hz2,
    View.ld_unit_zero (S := S8192x12288) hz2, View.ld_unit_zero (S := S1x8192) hz2, View.canon_unit_zero hz2]
  funext j
  exact pay_apply A q A' q' W s W' s' j

/-- The buffer the body leaves at the point, from the arrays the region finds. -/
theorem flushed_eq (c : Dev nD) (t : Fin cfg0.N) :
    (dats m 0 c).flushed 8 t = ((cfg0.win 8).blk t).view.read (Elt Ideal) (outRef (V m c main_arg0) (V m c main_arg1) (V m c main_v0) (V m c main_arg3) (V m c main_arg4) (V m c main_arg5) (V m c main_v1) (V m c main_v2)) := by
  rw [Cert.DhRefIdeal.Value.flushed8, iblk0_eq, iblk1_eq, iblk2_eq, iblk3_eq, iblk4_eq, iblk5_eq, iblk6_eq, iblk7_eq]
  funext (j : S8192x4096.Idx)
  refine (congrFun (out0_eq (V m c main_arg0) (V m c main_arg1) (V m c main_v0) (V m c main_arg3) (V m c main_arg4) (V m c main_arg5) (V m c main_v1) (V m c main_v2)) j).trans ?_
  show _ = outRef (V m c main_arg0) (V m c main_arg1) (V m c main_v0) (V m c main_arg3) (V m c main_arg4) (V m c main_arg5) (V m c main_v1) (V m c main_v2) (((cfg0.win 8).blk t).view.emb j)
  rw [emb8]

theorem covered (i : S8192x4096.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem V_v0 (c : Dev nD) : V m c main_v0 = shapeCast S8192x12288 (m ((c : Thread nD τ).loc main_arg2)) shapeCasts_S1x8192x3x32x128_S8192x12288 := by
  show StableHlo.after hostOps0 (fun b => m (c, b)) _ = _
  after_results
  try rfl

theorem V_v1 (c : Dev nD) : V m c main_v1 = shapeCast S4096x12288 (m ((c : Thread nD τ).loc main_arg6)) shapeCasts_S4096x3x32x128_S4096x12288 := by
  show StableHlo.after hostOps0 (fun b => m (c, b)) _ = _
  after_results
  try rfl

theorem V_v2 (c : Dev nD) : V m c main_v2 = shapeCast S1x12288 (m ((c : Thread nD τ).loc main_arg7)) shapeCasts_S3x32x128_S1x12288 := by
  show StableHlo.after hostOps0 (fun b => m (c, b)) _ = _
  after_results
  try rfl

/-- The array the reference leaves, from its arguments. -/
theorem value (c : Dev nD) :
    (dats m 0 c).arrAt 8 cfg0.N = outRef (m ((c : Thread nD τ).loc main_arg0)) (m ((c : Thread nD τ).loc main_arg1))
      (shapeCast S8192x12288 (m ((c : Thread nD τ).loc main_arg2)) shapeCasts_S1x8192x3x32x128_S8192x12288) (m ((c : Thread nD τ).loc main_arg3)) (m ((c : Thread nD τ).loc main_arg4)) (m ((c : Thread nD τ).loc main_arg5))
      (shapeCast S4096x12288 (m ((c : Thread nD τ).loc main_arg6)) shapeCasts_S4096x3x32x128_S4096x12288) (shapeCast S1x12288 (m ((c : Thread nD τ).loc main_arg7)) shapeCasts_S3x32x128_S1x12288) := by
  refine ((dats m 0 c).arrAt_eq_of_cover 8 (outRef (V m c main_arg0) (V m c main_arg1) (V m c main_v0) (V m c main_arg3) (V m c main_arg4) (V m c main_arg5) (V m c main_v1) (V m c main_v2))
    (fun t _ => flushed_eq m c t) covered).trans ?_
  rw [V_main_arg0, V_main_arg1, V_main_arg3, V_main_arg4, V_main_arg5, V_v0, V_v1, V_v2]

/-! ## The two sums -/

/-- A nonnegative finite factor comes out of a sum. -/
theorem sum_mul_of_fin {ι : Type} (S : Finset ι) (f : ι → EReal) {q : EReal} (h0 : 0 ≤ q) (h1 : q ≠ ⊤) :
    (∑ i ∈ S, f i) * q = ∑ i ∈ S, f i * q := by
  classical
  induction S using Finset.induction_on with
  | empty => simp
  | insert a S ha ih => rw [Finset.sum_insert ha, Finset.sum_insert ha, EReal.right_distrib_of_nonneg_of_ne_top h0 h1, ih]

/-- `K` blocks of `n` terms, added block by block, are the first `K n` terms added. -/
theorem sum_blocks (n : ℕ) (f : ℕ → EReal) (K : ℕ) :
    ∑ k ∈ Finset.range K, ∑ x : Fin n, f (n * k + x.val) = ∑ i ∈ Finset.range (n * K), f i := by
  induction K with
  | zero => simp
  | succ K ih => rw [Finset.sum_range_succ, ih, Nat.mul_succ, Finset.sum_range_add, Fin.sum_univ_eq_sum_range (fun x => f (n * K + x)) n]

/-- The transposed weights, read: the plane is the middle coordinate. -/
theorem transpose_at (W : S4096x2x11008.Idx → EReal) (h : Fin 2) (d : Fin 4096) (f : Fin 11008) :
    (transpose Cert.DhIdeal.S2x4096x11008 [1, 0, 2] W Cert.DhIdeal.Facts₀.transposes_S4096x2x11008_S2x4096x11008_1_0_2 : Cert.DhIdeal.S2x4096x11008.Idx → EReal) (ix3 h d f)
      = W (ix3 d h f) := by
  pointwise

open Cert.DhIdeal.Hand in
/-- One plane of the first product: 43 blocks of 256 columns, each term times the scale, are the product times the scale. -/
theorem plane (A : S2x8192x11008.Idx → EReal) (s : S2x11008.Idx → EReal) (q : S1x8192.Idx → EReal) (W : Cert.DhIdeal.S2x4096x11008.Idx → EReal)
    (W₀ : S4096x2x11008.Idx → EReal) (hW : ∀ h d f, W (ix3 h d f) = W₀ (ix3 d h f))
    (h : Fin 2) (r : Fin 8192) (d : Fin 4096) (h0 : 0 ≤ q (ix2 0 r)) (h1 : q (ix2 0 r) ≠ ⊤) :
    ∑ k ∈ Finset.range 43, ∑ x : Fin 256, t1 A s q W h r d (256 * k + x.val)
      = (∑ f : Fin 11008, A (ix3 h r f) * (W₀ (ix3 d h f) * s (ix2 h f))) * q (ix2 0 r) := by
  rw [sum_blocks 256 (t1 A s q W h r d) 43, sum_mul_of_fin _ _ h0 h1, show 256 * 43 = 11008 from rfl,
    ← Fin.sum_univ_eq_sum_range (t1 A s q W h r d) 11008]
  refine Finset.sum_congr rfl fun f _ => ?_
  have e : (⟨f.val % 11008, Nat.mod_lt _ (by decide)⟩ : Fin 11008) = f := Fin.ext (Nat.mod_eq_of_lt f.isLt)
  unfold t1
  rw [e, hW]
  ac_rfl

open Cert.DhIdeal.Hand in
/-- The second product: 24 blocks of 512 columns, each term times the scale, are the product times the scale. -/
theorem second (A : S8192x12288.Idx → EReal) (s : S1x12288.Idx → EReal) (q : S1x8192.Idx → EReal) (W : S4096x12288.Idx → EReal)
    (r : Fin 8192) (d : Fin 4096) (h0 : 0 ≤ q (ix2 0 r)) (h1 : q (ix2 0 r) ≠ ⊤) :
    ∑ k ∈ Finset.range 24, ∑ x : Fin 512, t2 A s q W r d (512 * k + x.val)
      = (∑ f : Fin 12288, A (ix2 r f) * (W (ix2 d f) * s (ix2 0 f))) * q (ix2 0 r) := by
  rw [sum_blocks 512 (t2 A s q W r d) 24, sum_mul_of_fin _ _ h0 h1, show 512 * 24 = 12288 from rfl,
    ← Fin.sum_univ_eq_sum_range (t2 A s q W r d) 12288]
  refine Finset.sum_congr rfl fun f _ => ?_
  have e : (⟨f.val % 12288, Nat.mod_lt _ (by decide)⟩ : Fin 12288) = f := Fin.ext (Nat.mod_eq_of_lt f.isLt)
  unfold t2
  rw [e]
  ac_rfl

open Cert.DhIdeal.Hand in
/-- The 67 steps of a run add up to the two products times their scales. -/
theorem sum_steps (A : S2x8192x11008.Idx → EReal) (s : S2x11008.Idx → EReal) (q : S1x8192.Idx → EReal) (W : Cert.DhIdeal.S2x4096x11008.Idx → EReal)
    (W₀ : S4096x2x11008.Idx → EReal) (hW : ∀ h d f, W (ix3 h d f) = W₀ (ix3 d h f))
    (A' : S8192x12288.Idx → EReal) (s' : S1x12288.Idx → EReal) (q' : S1x8192.Idx → EReal) (W' : S4096x12288.Idx → EReal)
    (hq : ∀ r : Fin 8192, 0 ≤ q (ix2 0 r) ∧ q (ix2 0 r) ≠ ⊤) (hq' : ∀ r : Fin 8192, 0 ≤ q' (ix2 0 r) ∧ q' (ix2 0 r) ≠ ⊤) (i : S8192x4096.Idx) :
    ∑ k ∈ Finset.range 67, step A s q W A' s' q' W' (i 0) (i 1) k = outRef A q A' q' W₀ s W' s' i := by
  have hs : ∀ (r : Fin 8192) (d : Fin 4096), ∑ k ∈ Finset.range (43 + 24), step A s q W A' s' q' W' r d k
      = (∑ f : Fin 11008, A (ix3 0 r f) * (W₀ (ix3 d 0 f) * s (ix2 0 f)) + ∑ f : Fin 11008, A (ix3 1 r f) * (W₀ (ix3 d 1 f) * s (ix2 1 f))) * q (ix2 0 r)
        + (∑ n : Fin 12288, A' (ix2 r n) * (W' (ix2 d n) * s' (ix2 0 n))) * q' (ix2 0 r) := by
    intro r d
    rw [Finset.sum_range_add, EReal.right_distrib_of_nonneg_of_ne_top (hq r).1 (hq r).2,
      ← plane A s q W W₀ hW 0 r d (hq r).1 (hq r).2, ← plane A s q W W₀ hW 1 r d (hq r).1 (hq r).2,
      ← second A' s' q' W' r d (hq' r).1 (hq' r).2, ← Finset.sum_add_distrib]
    refine congrArg₂ (fun a b : EReal => a + b) (Finset.sum_congr rfl fun k hk => ?_) (Finset.sum_congr rfl fun k hk => ?_)
    · unfold step
      rw [if_pos (Finset.mem_range.mp hk)]
    · unfold step
      rw [if_neg (by omega)]
      refine Finset.sum_congr rfl fun x _ => ?_
      rw [Nat.add_sub_cancel_left]
  exact hs (i 0) (i 1)

/-- The kernel's result and the reference's are one function of the arguments whose scales are nonnegative and finite. -/
theorem out_eq (A : S2x8192x11008.Idx → EReal) (q : S1x8192.Idx → EReal) (A' : S1x8192x3x32x128.Idx → EReal) (q' : S1x8192.Idx → EReal)
    (W : S4096x2x11008.Idx → EReal) (s : S2x11008.Idx → EReal) (W' : S4096x3x32x128.Idx → EReal) (s' : S3x32x128.Idx → EReal)
    (hq : ∀ r : Fin 8192, 0 ≤ q (ix2 0 r) ∧ q (ix2 0 r) ≠ ⊤) (hq' : ∀ r : Fin 8192, 0 ≤ q' (ix2 0 r) ∧ q' (ix2 0 r) ≠ ⊤) :
    Cert.DhIdeal.Hand.out A q A' q' W s W' s' = outRef A q (shapeCast S8192x12288 A' shapeCasts_S1x8192x3x32x128_S8192x12288) q' W s
      (shapeCast S4096x12288 W' shapeCasts_S4096x3x32x128_S4096x12288) (shapeCast S1x12288 s' shapeCasts_S3x32x128_S1x12288) := by
  funext i
  unfold Cert.DhIdeal.Hand.out
  exact sum_steps A s q _ W (fun h d f => transpose_at W h d f) _ _ q' _ hq hq' i

/-! ## The precondition, read -/

theorem ofBits_inf : (Ideal.ofBits .f32 0x7F800000#32) = ⊤ := by simp [Ideal.ofBits, Ideal.ieee]

theorem ofBits_zero : (Ideal.ofBits .f32 0x00000000#32) = 0 := by simp [Ideal.ofBits, Ideal.ieee]

theorem and_one (a b : BitVec 1) : a &&& b = 1#1 ↔ a = 1#1 ∧ b = 1#1 := by
  revert a b
  decide

theorem ofBool_one (p : Prop) [Decidable p] : BitVec.ofBool (decide p) = 1#1 ↔ p := by
  by_cases h : p <;> simp [h]

/-- Where the precondition is all ones, both arrays of row scales are nonnegative and finite. -/
theorem pre_at [Cert.Pre_finite_scales.Facts] (A : S2x8192x11008.Idx → EReal) (q : S1x8192.Idx → EReal) (A' : S1x8192x3x32x128.Idx → EReal) (q' : S1x8192.Idx → EReal)
    (W : S4096x2x11008.Idx → EReal) (s : S2x11008.Idx → EReal) (W' : S4096x3x32x128.Idx → EReal) (s' : S3x32x128.Idx → EReal)
    (h : Cert.Pre_finite_scales.fn (F := Ideal) A q A' q' W s W' s' = fun _ => 1#1) (r : Fin 8192) :
    (0 ≤ q (ix2 0 r) ∧ q (ix2 0 r) ≠ ⊤) ∧ (0 ≤ q' (ix2 0 r) ∧ q' (ix2 0 r) ≠ ⊤) := by
  have hr : (BitVec.ofBool (decide (Ideal.ofBits .f32 0x00000000#32 ≤ q (ix2 0 r))) &&& BitVec.ofBool (decide (q (ix2 0 r) < Ideal.ofBits .f32 0x7F800000#32)))
      &&& (BitVec.ofBool (decide (Ideal.ofBits .f32 0x00000000#32 ≤ q' (ix2 0 r))) &&& BitVec.ofBool (decide (q' (ix2 0 r) < Ideal.ofBits .f32 0x7F800000#32))) = 1#1 :=
    congrFun h (ix2 0 r)
  rw [ofBits_inf, ofBits_zero, and_one, and_one, and_one, ofBool_one, ofBool_one, ofBool_one, ofBool_one] at hr
  exact ⟨⟨hr.1.1, ne_of_lt hr.1.2⟩, ⟨hr.2.1, ne_of_lt hr.2.2⟩⟩

end Cert.DhRefIdeal.Hand

namespace Cert.Proof

open Idealize.ShloMosaic Idealize.ShloMosaic.TcCoe Idealize.SL.Sem

/-- From the same arguments, the scales nonnegative and finite, the kernel and the reference leave the same array. -/
theorem algebraic_dh [Cert.Pre_finite_scales.Facts] : Cert.algebraic_DhIdeal_DhRefIdeal_pre_finite_scales := by
  intro m ρ m' ρ' hpre hagree
  refine ⟨_, Cert.DhIdeal.Hand.run m ρ, ?_⟩
  refine (θ_run (Cert.DhRefIdeal.defs (F := Ideal)) _ _).mono (fun r h c => ?_) (Cert.DhRefIdeal.Value.run_blocks m' ρ')
  obtain ⟨h, hargs⟩ := h c
  obtain ⟨a0, a1, a2, a3, a4, a5, a6, a7⟩ := hagree c
  have hp := Cert.DhRefIdeal.Hand.pre_at _ _ _ _ _ _ _ _ (hpre c)
  refine ⟨h.trans ?_, hargs⟩
  rw [Cert.DhIdeal.Hand.value, Cert.DhRefIdeal.Hand.value, a0, a1, a2, a3, a4, a5, a6, a7]
  exact (Cert.DhRefIdeal.Hand.out_eq _ _ _ _ _ _ _ _ (fun r => (hp r).1) (fun r => (hp r).2)).symm

end Cert.Proof

end
-- ==== Proof.LnValue.lean ====
/-
  The value of `LnIdeal` (hand-written, untrusted): what each grid point leaves in its block of `dx` and in the running
  `dgamma`, and from these both results in terms of the arguments.
-/
module

public import proofs.«01_k».proof.Proof.Gen.LnIdeal.Value
public import Idealize.ShloMosaic.Lib.Pipeline.Value
public import Idealize.ShloMosaic.Lib.Pointwise

@[expose] public section

noncomputable section

namespace Cert.LnIdeal.Hand

open Cert.LnIdeal Cert.LnIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-! ## The payloads, read at an index -/

/-- One row of `dx`: the row of `dh` is multiplied by `g`, its mean and its projection on the row `xh · xs` are taken
    off, and `rs` times what remains is added to `dy · ds`. The mean of 4096 terms of sum `s` is `s · w`. -/
def rowDx (w : EReal) (dh xh g dy : Fin 4096 → EReal) (xs rs ds : EReal) (j : Fin 4096) : EReal :=
  dy j * ds + rs * ((dh j * g j - (∑ k, dh k * g k) * w) - (xh j * xs) * ((∑ k, (dh k * g k) * (xh k * xs)) * w))

theorem dx_apply (dh : S256x4096.Idx → EReal) (xh : S256x4096.Idx → EReal) (dy : S256x4096.Idx → EReal) (xs : S256x1.Idx → EReal)
    (rs : S256x1.Idx → EReal) (ds : S256x1.Idx → EReal) (g : S1x4096.Idx → EReal) (j : S256x4096.Idx) :
    (k0_pay1 (F := Ideal) (k0_pay2 xh xs) (k0_pay6 rs) (k0_pay7 dh g) (k0_pay8 dh xh xs g) dy ds : S256x4096.Idx → EReal) j
      = rowDx (Ideal.ofBits .f32 0x39800000#32) (fun k => dh (ix2 (j 0) k)) (fun k => xh (ix2 (j 0) k)) (fun k => g (ix2 0 k))
          (fun k => dy (ix2 (j 0) k)) (xs (ix2 (j 0) 0)) (rs (ix2 (j 0) 0)) (ds (ix2 (j 0) 0)) (j 1) := by
  unfold rowDx
  pointwise [k0_pay1, k0_pay2, k0_pay5, k0_pay6, k0_pay7, k0_pay8]

theorem dg_apply (dh : S256x4096.Idx → EReal) (xh : S256x4096.Idx → EReal) (xs : S256x1.Idx → EReal) (o : S1x4096.Idx → EReal) (j : S1x4096.Idx) :
    (k0_pay4 (F := Ideal) dh xh xs o : S1x4096.Idx → EReal) j
      = o j + ∑ r : Fin 256, dh (ix2 r (j 1)) * (xh (ix2 r (j 1)) * xs (ix2 r 0)) := by
  pointwise [k0_pay4, k0_pay2]

theorem pay3_apply (j : S1x4096.Idx) : (k0_pay3 (F := Ideal) : S1x4096.Idx → EReal) j = 0 := by
  pointwise [k0_pay3]

variable (m : (ℓ : Loc nD τ sig) → Buf (Elt Ideal) ℓ) (ρ : Dev nD → PrngReg)

/-! ## What each case leaves -/

/-- The first point: the row sums are added to zero. -/
theorem at_A (c : Dev nD) (t : Fin cfg0.N) (h0 : t.val % 32 = 0) :
    (outsAt0 m c t.val t.isLt).1 = k0_pay1 (F := Ideal) (k0_pay2 (iblk m c 1 t) (iblk m c 3 t)) (k0_pay6 (iblk m c 4 t)) (k0_pay7 (iblk m c 0 t) (iblk m c 6 t))
      (k0_pay8 (iblk m c 0 t) (iblk m c 1 t) (iblk m c 3 t) (iblk m c 6 t)) (iblk m c 2 t) (iblk m c 5 t)
    ∧ (outsAt0 m c t.val t.isLt).2 = k0_pay4 (F := Ideal) (iblk m c 0 t) (iblk m c 1 t) (iblk m c 3 t) (k0_pay3 (F := Ideal)) := by
  rw [outsAt0_A m c t h0]
  dsimp only
  refine ⟨?_, ?_⟩
  · unfold out0_A_7
    rw [View.read_writes_eq_canon (h := fun y => cover0_A_7 ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread]
    simp only [View.ld_unit_zero (S := S256x4096) hz2, View.ld_unit_zero (S := S256x1) hz2, View.ld_unit_zero (S := S1x4096) hz2]
    try rfl
  · unfold out0_A_8
    rw [View.read_writes_eq_canon (h := fun y => cover0_A_8 ..)]
    unfold kernelRun0_A
    dsimp only
    sl_unfold_words
    rw [View.canon_cons_unit_zero hz2]
    simp only [View.readAt_eq_ld, (hs0_0 t).read_unread, (hs0_1 t).read_unread, (hs0_3 t).read_unread, (hs0_8 t).read_unread]
    rw [View.readCov_unit_zero (S := S1x4096) _ hz2, View.ld_unit_zero (S := S256x4096) hz2, View.ld_unit_zero (S := S256x4096) hz2, View.ld_unit_zero (S := S256x1) hz2]
    try rfl

/-- Every later point: the row sums are added to what the point before left. -/
theorem at_B (c : Dev nD) (t : Fin cfg0.N) (h0 : ¬t.val % 32 = 0) :
    (outsAt0 m c t.val t.isLt).1 = k0_pay1 (F := Ideal) (k0_pay2 (iblk m c 1 t) (iblk m c 3 t)) (k0_pay6 (iblk m c 4 t)) (k0_pay7 (iblk m c 0 t) (iblk m c 6 t))
      (k0_pay8 (iblk m c 0 t) (iblk m c 1 t) (iblk m c 3 t) (iblk m c 6 t)) (iblk m c 2 t) (iblk m c 5 t)
    ∧ (outsAt0 m c t.val t.isLt).2 = k0_pay4 (F := Ideal) (iblk m c 0 t) (iblk m c 1 t) (iblk m c 3 t) (outsAt0 m c (t.val - 1) (Nat.lt_of_le_of_lt (Nat.sub_le _ _) t.isLt)).2 := by
  rw [outsAt0_B m c t h0]
  dsimp only
  refine ⟨?_, ?_⟩
  · unfold out0_B_7
    rw [View.read_writes_eq_canon (h := fun y => cover0_B_7 ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread]
    simp only [View.ld_unit_zero (S := S256x4096) hz2, View.ld_unit_zero (S := S256x1) hz2, View.ld_unit_zero (S := S1x4096) hz2]
    try rfl
  · unfold out0_B_8
    rw [View.read_writes_eq_canon (h := fun y => cover0_B_8 ..)]
    unfold kernelRun0_B
    dsimp only
    sl_unfold_words
    rw [View.canon_unit_zero hz2]
    simp only [View.readAt_eq_ld, (hs0_0 t).read_unread, (hs0_1 t).read_unread, (hs0_3 t).read_unread, (hs0_8 t).read_unread]
    rw [View.ld_unit_zero (S := S256x4096) hz2, View.ld_unit_zero (S := S256x4096) hz2, View.ld_unit_zero (S := S256x1) hz2, View.ld_unit_zero (S := S1x4096) hz2]
    try rfl

/-! ## The blocks of a point -/

/-- Row `r` of the 256 rows point `n` works on, as a row of the whole arrays. -/
def row (n : ℕ) (r : Fin 256) : Fin 8192 := ⟨(256 * n + r.val) % 8192, Nat.mod_lt _ (by decide)⟩

theorem point_lt (t : Fin cfg0.N) : t.val < 32 := lt_of_lt_of_eq t.isLt (show cfg0.N = 32 from N_0)

theorem idx_facts0 : ∀ t : Fin cfg0.N, win0_0.index t (0 : Fin 2) = t.val ∧ win0_0.index t (1 : Fin 2) = 0 :=
  (by decide +kernel : ∀ t : Fin grid0.N, _)

theorem idx_facts1 : ∀ t : Fin cfg0.N, win0_1.index t (0 : Fin 2) = t.val ∧ win0_1.index t (1 : Fin 2) = 0 :=
  (by decide +kernel : ∀ t : Fin grid0.N, _)

theorem idx_facts2 : ∀ t : Fin cfg0.N, win0_2.index t (0 : Fin 2) = t.val ∧ win0_2.index t (1 : Fin 2) = 0 :=
  (by decide +kernel : ∀ t : Fin grid0.N, _)

theorem idx_facts3 : ∀ t : Fin cfg0.N, win0_3.index t (0 : Fin 2) = t.val ∧ win0_3.index t (1 : Fin 2) = 0 :=
  (by decide +kernel : ∀ t : Fin grid0.N, _)

theorem idx_facts4 : ∀ t : Fin cfg0.N, win0_4.index t (0 : Fin 2) = t.val ∧ win0_4.index t (1 : Fin 2) = 0 :=
  (by decide +kernel : ∀ t : Fin grid0.N, _)

theorem idx_facts5 : ∀ t : Fin cfg0.N, win0_5.index t (0 : Fin 2) = t.val ∧ win0_5.index t (1 : Fin 2) = 0 :=
  (by decide +kernel : ∀ t : Fin grid0.N, _)

theorem idx_facts7 : ∀ t : Fin cfg0.N, win0_7.index t (0 : Fin 2) = t.val ∧ win0_7.index t (1 : Fin 2) = 0 :=
  (by decide +kernel : ∀ t : Fin grid0.N, _)

theorem idx_facts6 : ∀ t : Fin cfg0.N, win0_6.index t (0 : Fin 2) = 0 ∧ win0_6.index t (1 : Fin 2) = 0 :=
  (by decide +kernel : ∀ t : Fin grid0.N, _)

theorem idx_facts8 : ∀ t : Fin cfg0.N, win0_8.index t (0 : Fin 2) = 0 ∧ win0_8.index t (1 : Fin 2) = 0 :=
  (by decide +kernel : ∀ t : Fin grid0.N, _)

theorem blk0 (c : Dev nD) (t : Fin cfg0.N) (r : Fin 256) (x : Fin 4096) :
    (iblk m c 0 t : S256x4096.Idx → EReal) (ix2 r x) = (V m c main_arg0 : S8192x4096.Idx → EReal) (ix2 (row t.val r) x) := by
  obtain ⟨e0, e1⟩ := idx_facts0 t
  have hN := point_lt t
  have hr := r.isLt
  show V m c main_arg0 (((cfg0.win 0).blk t).view.emb (ix2 r x : S256x4096.Idx)) = _
  refine congrArg (V m c main_arg0) (Shape.idx_ext₂ ?_ ?_)
  · show win0_0.index t (0 : Fin 2) * 256 + 1 * r.val = (256 * t.val + r.val) % 8192
    omega
  · show win0_0.index t (1 : Fin 2) * 4096 + 1 * x.val = x.val
    omega

theorem blk1 (c : Dev nD) (t : Fin cfg0.N) (r : Fin 256) (x : Fin 4096) :
    (iblk m c 1 t : S256x4096.Idx → EReal) (ix2 r x) = (V m c main_v0 : S8192x4096.Idx → EReal) (ix2 (row t.val r) x) := by
  obtain ⟨e0, e1⟩ := idx_facts1 t
  have hN := point_lt t
  have hr := r.isLt
  show V m c main_v0 (((cfg0.win 1).blk t).view.emb (ix2 r x : S256x4096.Idx)) = _
  refine congrArg (V m c main_v0) (Shape.idx_ext₂ ?_ ?_)
  · show win0_1.index t (0 : Fin 2) * 256 + 1 * r.val = (256 * t.val + r.val) % 8192
    omega
  · show win0_1.index t (1 : Fin 2) * 4096 + 1 * x.val = x.val
    omega

theorem blk2 (c : Dev nD) (t : Fin cfg0.N) (r : Fin 256) (x : Fin 4096) :
    (iblk m c 2 t : S256x4096.Idx → EReal) (ix2 r x) = (V m c main_v1 : S8192x4096.Idx → EReal) (ix2 (row t.val r) x) := by
  obtain ⟨e0, e1⟩ := idx_facts2 t
  have hN := point_lt t
  have hr := r.isLt
  show V m c main_v1 (((cfg0.win 2).blk t).view.emb (ix2 r x : S256x4096.Idx)) = _
  refine congrArg (V m c main_v1) (Shape.idx_ext₂ ?_ ?_)
  · show win0_2.index t (0 : Fin 2) * 256 + 1 * r.val = (256 * t.val + r.val) % 8192
    omega
  · show win0_2.index t (1 : Fin 2) * 4096 + 1 * x.val = x.val
    omega

theorem blk3 (c : Dev nD) (t : Fin cfg0.N) (r : Fin 256) :
    (iblk m c 3 t : S256x1.Idx → EReal) (ix2 r 0) = (V m c main_v2 : S8192x1.Idx → EReal) (ix2 (row t.val r) 0) := by
  obtain ⟨e0, e1⟩ := idx_facts3 t
  have hN := point_lt t
  have hr := r.isLt
  show V m c main_v2 (((cfg0.win 3).blk t).view.emb (ix2 r 0 : S256x1.Idx)) = _
  refine congrArg (V m c main_v2) (Shape.idx_ext₂ ?_ ?_)
  · show win0_3.index t (0 : Fin 2) * 256 + 1 * r.val = (256 * t.val + r.val) % 8192
    omega
  · show win0_3.index t (1 : Fin 2) * 1 + 1 * 0 = 0
    omega

theorem blk4 (c : Dev nD) (t : Fin cfg0.N) (r : Fin 256) :
    (iblk m c 4 t : S256x1.Idx → EReal) (ix2 r 0) = (V m c main_v3 : S8192x1.Idx → EReal) (ix2 (row t.val r) 0) := by
  obtain ⟨e0, e1⟩ := idx_facts4 t
  have hN := point_lt t
  have hr := r.isLt
  show V m c main_v3 (((cfg0.win 4).blk t).view.emb (ix2 r 0 : S256x1.Idx)) = _
  refine congrArg (V m c main_v3) (Shape.idx_ext₂ ?_ ?_)
  · show win0_4.index t (0 : Fin 2) * 256 + 1 * r.val = (256 * t.val + r.val) % 8192
    omega
  · show win0_4.index t (1 : Fin 2) * 1 + 1 * 0 = 0
    omega

theorem blk5 (c : Dev nD) (t : Fin cfg0.N) (r : Fin 256) :
    (iblk m c 5 t : S256x1.Idx → EReal) (ix2 r 0) = (V m c main_v4 : S8192x1.Idx → EReal) (ix2 (row t.val r) 0) := by
  obtain ⟨e0, e1⟩ := idx_facts5 t
  have hN := point_lt t
  have hr := r.isLt
  show V m c main_v4 (((cfg0.win 5).blk t).view.emb (ix2 r 0 : S256x1.Idx)) = _
  refine congrArg (V m c main_v4) (Shape.idx_ext₂ ?_ ?_)
  · show win0_5.index t (0 : Fin 2) * 256 + 1 * r.val = (256 * t.val + r.val) % 8192
    omega
  · show win0_5.index t (1 : Fin 2) * 1 + 1 * 0 = 0
    omega

theorem blk6 (c : Dev nD) (t : Fin cfg0.N) (x : Fin 4096) :
    (iblk m c 6 t : S1x4096.Idx → EReal) (ix2 0 x) = (V m c main_v5 : S1x4096.Idx → EReal) (ix2 0 x) := by
  obtain ⟨e0, e1⟩ := idx_facts6 t
  show V m c main_v5 (((cfg0.win 6).blk t).view.emb (ix2 0 x : S1x4096.Idx)) = _
  refine congrArg (V m c main_v5) (Shape.idx_ext₂ ?_ ?_)
  · show win0_6.index t (0 : Fin 2) * 1 + 1 * 0 = 0
    omega
  · show win0_6.index t (1 : Fin 2) * 4096 + 1 * x.val = x.val
    omega

/-! ## `dx` -/

/-- `dx` from the arrays: `rowDx` of every row. -/
def dx (w : EReal) (dh xh dy : S8192x4096.Idx → EReal) (xs rs ds : S8192x1.Idx → EReal) (g : S1x4096.Idx → EReal) : S8192x4096.Idx → EReal :=
  fun i => rowDx w (fun k => dh (ix2 (i 0) k)) (fun k => xh (ix2 (i 0) k)) (fun k => g (ix2 0 k))
    (fun k => dy (ix2 (i 0) k)) (xs (ix2 (i 0) 0)) (rs (ix2 (i 0) 0)) (ds (ix2 (i 0) 0)) (i 1)

/-- Every point leaves its rows of `dx`. -/
theorem outs_dx (c : Dev nD) (t : Fin cfg0.N) (j : S256x4096.Idx) :
    ((outsAt0 m c t.val t.isLt).1 : S256x4096.Idx → EReal) j
      = dx (Ideal.ofBits .f32 0x39800000#32) (V m c main_arg0) (V m c main_v0) (V m c main_v1) (V m c main_v2) (V m c main_v3) (V m c main_v4)
          (V m c main_v5) (ix2 (row t.val (j 0)) (j 1)) := by
  have h1 : (outsAt0 m c t.val t.isLt).1 = k0_pay1 (F := Ideal) (k0_pay2 (iblk m c 1 t) (iblk m c 3 t)) (k0_pay6 (iblk m c 4 t)) (k0_pay7 (iblk m c 0 t) (iblk m c 6 t))
      (k0_pay8 (iblk m c 0 t) (iblk m c 1 t) (iblk m c 3 t) (iblk m c 6 t)) (iblk m c 2 t) (iblk m c 5 t) := by
    by_cases h0 : t.val % 32 = 0
    · exact (at_A m c t h0).1
    · exact (at_B m c t h0).1
  refine (congrFun h1 j).trans ?_
  refine (dx_apply (iblk m c 0 t) (iblk m c 1 t) (iblk m c 2 t) (iblk m c 3 t) (iblk m c 4 t) (iblk m c 5 t) (iblk m c 6 t) j).trans ?_
  have e0 : (fun k => (iblk m c 0 t : S256x4096.Idx → EReal) (ix2 (j 0) k)) = fun k => (V m c main_arg0 : S8192x4096.Idx → EReal) (ix2 (row t.val (j 0)) k) :=
    funext fun k => blk0 m c t (j 0) k
  have e1 : (fun k => (iblk m c 1 t : S256x4096.Idx → EReal) (ix2 (j 0) k)) = fun k => (V m c main_v0 : S8192x4096.Idx → EReal) (ix2 (row t.val (j 0)) k) :=
    funext fun k => blk1 m c t (j 0) k
  have e2 : (fun k => (iblk m c 2 t : S256x4096.Idx → EReal) (ix2 (j 0) k)) = fun k => (V m c main_v1 : S8192x4096.Idx → EReal) (ix2 (row t.val (j 0)) k) :=
    funext fun k => blk2 m c t (j 0) k
  have e6 : (fun k => (iblk m c 6 t : S1x4096.Idx → EReal) (ix2 0 k)) = fun k => (V m c main_v5 : S1x4096.Idx → EReal) (ix2 0 k) :=
    funext fun k => blk6 m c t k
  have e3 := blk3 m c t (j 0)
  have e4 := blk4 m c t (j 0)
  have e5 := blk5 m c t (j 0)
  unfold dx
  exact congr (congr (congr (congr (congr (congr (congr (congrArg (rowDx _) e0) e1) e6) e2) e3) e4) e5) rfl

/-- Reading an array through the block of `dx`, at an index. -/
theorem read7 (G : S8192x4096.Idx → EReal) (t : Fin cfg0.N) (j : S256x4096.Idx) :
    ((cfg0.win 7).blk t).view.read (Elt Ideal) G j = G (((cfg0.win 7).blk t).view.emb j) := rfl

theorem flushed7_eq (c : Dev nD) (t : Fin cfg0.N) :
    (dats m 0 c).flushed 7 t = ((cfg0.win 7).blk t).view.read (Elt Ideal) (dx (Ideal.ofBits .f32 0x39800000#32) (V m c main_arg0) (V m c main_v0)
      (V m c main_v1) (V m c main_v2) (V m c main_v3) (V m c main_v4) (V m c main_v5)) := by
  rw [Cert.LnIdeal.Value.flushed7]
  obtain ⟨e0, e1⟩ := idx_facts7 t
  have hN := point_lt t
  funext (j : S256x4096.Idx)
  refine (outs_dx m c t j).trans (Eq.trans ?_ (read7 _ t j).symm)
  have h0 : (j 0 : Nat) < 256 := (j 0).isLt
  refine congrArg _ (Shape.idx_ext₂ ?_ ?_)
  · show (256 * t.val + (j 0).val) % 8192 = win0_7.index t (0 : Fin 2) * 256 + 1 * (j 0).val
    omega
  · show (j 1).val = win0_7.index t (1 : Fin 2) * 4096 + 1 * (j 1).val
    omega

theorem covered7 (i : S8192x4096.Idx) : ∃ t : Fin cfg0.N, (cfg0.win 7).flush t = true ∧ i ∈ ((cfg0.win 7).blk t).view.set := by
  have h0 : (i 0 : Nat) < 8192 := (i 0).isLt
  have h1 : (i 1 : Nat) < 4096 := (i 1).isLt
  have ht : (i 0 : Nat) / 256 < cfg0.N := lt_of_lt_of_eq (by omega) (show 32 = cfg0.N from N_0.symm)
  refine ⟨⟨(i 0 : Nat) / 256, ht⟩, flush0_7 _, ?_⟩
  obtain ⟨e0, e1⟩ := idx_facts7 ⟨(i 0 : Nat) / 256, ht⟩
  generalize hT : (⟨(i 0 : Nat) / 256, ht⟩ : Fin cfg0.N) = t at e0 e1
  have e2 : t.val = (i 0 : Nat) / 256 := by rw [← hT]
  show i ∈ ((View.whole main_v6_0).slice (win0_7.rect t)).set
  rw [View.set_slice_whole, Rect.mem_set_unit]
  intro a
  match a with
  | ⟨0, _⟩ => show win0_7.index t (0 : Fin 2) * 256 ≤ (i 0 : Nat) ∧ (i 0 : Nat) < win0_7.index t (0 : Fin 2) * 256 + 256
              omega
  | ⟨1, _⟩ => show win0_7.index t (1 : Fin 2) * 4096 ≤ (i 1 : Nat) ∧ (i 1 : Nat) < win0_7.index t (1 : Fin 2) * 4096 + 4096
              omega

/-! ## `dgamma` -/

/-- What point `k` adds to `dgamma` at column `j`: the sum over its 256 rows. -/
def stepG (dh xh : S8192x4096.Idx → EReal) (xs : S8192x1.Idx → EReal) (j : Fin 4096) (k : ℕ) : EReal :=
  ∑ r : Fin 256, dh (ix2 (row k r) j) * (xh (ix2 (row k r) j) * xs (ix2 (row k r) 0))

/-- `dgamma` from the arrays: the 32 points' sums added up. -/
def dg (dh xh : S8192x4096.Idx → EReal) (xs : S8192x1.Idx → EReal) : S1x4096.Idx → EReal :=
  fun i => ∑ k ∈ Finset.range 32, stepG dh xh xs (i 1) k

/-- A point adds its step. -/
theorem add_step (c : Dev nD) (t : Fin cfg0.N) (o : S1x4096.Idx → EReal) (j : S1x4096.Idx) :
    (k0_pay4 (F := Ideal) (iblk m c 0 t) (iblk m c 1 t) (iblk m c 3 t) o : S1x4096.Idx → EReal) j
      = o j + stepG (V m c main_arg0) (V m c main_v0) (V m c main_v2) (j 1) t.val := by
  refine (dg_apply (iblk m c 0 t) (iblk m c 1 t) (iblk m c 3 t) o j).trans (congrArg (fun y : EReal => o j + y) ?_)
  unfold stepG
  refine Finset.sum_congr rfl fun r _ => ?_
  exact congrArg₂ (fun a b : EReal => a * b) (blk0 m c t r (j 1)) (congrArg₂ (fun a b : EReal => a * b) (blk1 m c t r (j 1)) (blk3 m c t r))

/-- After point `n`, the accumulator holds the sum of the steps so far. -/
theorem outs_dg (c : Dev nD) : ∀ (n : ℕ) (hn : n < cfg0.N) (j : S1x4096.Idx),
    ((outsAt0 m c n hn).2 : S1x4096.Idx → EReal) j
      = ∑ k ∈ Finset.range (n + 1), stepG (V m c main_arg0) (V m c main_v0) (V m c main_v2) (j 1) k := by
  intro n
  induction n with
  | zero =>
    intro hn j
    refine (congrFun (at_A m c ⟨0, hn⟩ rfl).2 j).trans ((add_step m c ⟨0, hn⟩ _ j).trans ?_)
    rw [pay3_apply, zero_add, Finset.sum_range_one]
  | succ n ih =>
    intro hn j
    have hN := point_lt ⟨n + 1, hn⟩
    refine (congrFun (at_B m c ⟨n + 1, hn⟩ (by show ¬(n + 1) % 32 = 0; have : n + 1 < 32 := hN; omega)).2 j).trans ((add_step m c ⟨n + 1, hn⟩ _ j).trans ?_)
    rw [Finset.sum_range_succ]
    exact congrArg (fun y : EReal => y + _) (ih (Nat.lt_of_succ_lt hn) j)

/-- Reading an array through the block of `dgamma`, at an index. -/
theorem read8 (G : S1x4096.Idx → EReal) (t : Fin cfg0.N) (j : S1x4096.Idx) :
    ((cfg0.win 8).blk t).view.read (Elt Ideal) G j = G (((cfg0.win 8).blk t).view.emb j) := rfl

theorem flushed8_eq (c : Dev nD) (t : Fin cfg0.N) (hf : (cfg0.win 8).flush t = true) :
    (dats m 0 c).flushed 8 t = ((cfg0.win 8).blk t).view.read (Elt Ideal) (dg (V m c main_arg0) (V m c main_v0) (V m c main_v2)) := by
  rw [Cert.LnIdeal.Value.flushed8]
  obtain ⟨e0, e1⟩ := idx_facts8 t
  have hm : t.val % 32 = 31 := (flush0_8 t).mp hf
  have hN := point_lt t
  funext (j : S1x4096.Idx)
  refine (outs_dg m c t.val t.isLt j).trans (Eq.trans ?_ (read8 _ t j).symm)
  rw [show t.val + 1 = 32 by omega]
  have e : (((cfg0.win 8).blk t).view.emb j : S1x4096.Idx) = j := by
    refine Shape.idx_ext₂ ?_ ?_
    · show win0_8.index t (0 : Fin 2) * 1 + 1 * (j 0).val = (j 0).val
      omega
    · show win0_8.index t (1 : Fin 2) * 4096 + 1 * (j 1).val = (j 1).val
      omega
  rw [e]
  rfl

theorem covered8 (i : S1x4096.Idx) : ∃ t : Fin cfg0.N, (cfg0.win 8).flush t = true ∧ i ∈ ((cfg0.win 8).blk t).view.set := by
  have h0 : (i 0 : Nat) < 1 := (i 0).isLt
  have h1 : (i 1 : Nat) < 4096 := (i 1).isLt
  have ht : 31 < cfg0.N := lt_of_lt_of_eq (by omega) (show 32 = cfg0.N from N_0.symm)
  refine ⟨⟨31, ht⟩, (flush0_8 _).mpr rfl, ?_⟩
  obtain ⟨e0, e1⟩ := idx_facts8 ⟨31, ht⟩
  generalize hT : (⟨31, ht⟩ : Fin cfg0.N) = t at e0 e1
  show i ∈ ((View.whole main_v6_1).slice (win0_8.rect t)).set
  rw [View.set_slice_whole, Rect.mem_set_unit]
  intro a
  match a with
  | ⟨0, _⟩ => show win0_8.index t (0 : Fin 2) * 1 ≤ (i 0 : Nat) ∧ (i 0 : Nat) < win0_8.index t (0 : Fin 2) * 1 + 1
              omega
  | ⟨1, _⟩ => show win0_8.index t (1 : Fin 2) * 4096 ≤ (i 1 : Nat) ∧ (i 1 : Nat) < win0_8.index t (1 : Fin 2) * 4096 + 4096
              omega

/-! ## In terms of the arguments -/

theorem V_v0 (c : Dev nD) : V m c main_v0 = shapeCast S8192x4096 (m ((c : Thread nD τ).loc main_arg1)) shapeCasts_S1x8192x4096_S8192x4096 := by
  show StableHlo.after hostOps0 (fun b => m (c, b)) _ = _
  after_results
  try rfl

theorem V_v1 (c : Dev nD) : V m c main_v1 = shapeCast S8192x4096 (m ((c : Thread nD τ).loc main_arg4)) shapeCasts_S1x8192x4096_S8192x4096 := by
  show StableHlo.after hostOps0 (fun b => m (c, b)) _ = _
  after_results
  try rfl

theorem V_v2 (c : Dev nD) : V m c main_v2 = shapeCast S8192x1 (m ((c : Thread nD τ).loc main_arg2)) shapeCasts_S1x8192_S8192x1 := by
  show StableHlo.after hostOps0 (fun b => m (c, b)) _ = _
  after_results
  try rfl

theorem V_v3 (c : Dev nD) : V m c main_v3 = shapeCast S8192x1 (m ((c : Thread nD τ).loc main_arg3)) shapeCasts_S1x8192_S8192x1 := by
  show StableHlo.after hostOps0 (fun b => m (c, b)) _ = _
  after_results
  try rfl

theorem V_v4 (c : Dev nD) : V m c main_v4 = shapeCast S8192x1 (m ((c : Thread nD τ).loc main_arg5)) shapeCasts_S1x8192_S8192x1 := by
  show StableHlo.after hostOps0 (fun b => m (c, b)) _ = _
  after_results
  try rfl

theorem V_v5 (c : Dev nD) : V m c main_v5 = shapeCast S1x4096 (m ((c : Thread nD τ).loc main_arg6)) shapeCasts_S4096_S1x4096 := by
  show StableHlo.after hostOps0 (fun b => m (c, b)) _ = _
  after_results
  try rfl

/-- `dx` as the program leaves it, from its arguments. -/
theorem value_dx (c : Dev nD) :
    (dats m 0 c).arrAt 7 cfg0.N = dx (Ideal.ofBits .f32 0x39800000#32) (m ((c : Thread nD τ).loc main_arg0)) (shapeCast S8192x4096 (m ((c : Thread nD τ).loc main_arg1)) shapeCasts_S1x8192x4096_S8192x4096)
      (shapeCast S8192x4096 (m ((c : Thread nD τ).loc main_arg4)) shapeCasts_S1x8192x4096_S8192x4096) (shapeCast S8192x1 (m ((c : Thread nD τ).loc main_arg2)) shapeCasts_S1x8192_S8192x1)
      (shapeCast S8192x1 (m ((c : Thread nD τ).loc main_arg3)) shapeCasts_S1x8192_S8192x1) (shapeCast S8192x1 (m ((c : Thread nD τ).loc main_arg5)) shapeCasts_S1x8192_S8192x1)
      (shapeCast S1x4096 (m ((c : Thread nD τ).loc main_arg6)) shapeCasts_S4096_S1x4096) := by
  refine ((dats m 0 c).arrAt_eq_of_cover 7 _ (fun t _ => flushed7_eq m c t) covered7).trans ?_
  rw [V_main_arg0, V_v0, V_v1, V_v2, V_v3, V_v4, V_v5]

/-- `dgamma` as the program leaves it, from its arguments. -/
theorem value_dg (c : Dev nD) :
    (dats m 0 c).arrAt 8 cfg0.N = dg (m ((c : Thread nD τ).loc main_arg0)) (shapeCast S8192x4096 (m ((c : Thread nD τ).loc main_arg1)) shapeCasts_S1x8192x4096_S8192x4096) (shapeCast S8192x1 (m ((c : Thread nD τ).loc main_arg2)) shapeCasts_S1x8192_S8192x1) := by
  refine ((dats m 0 c).arrAt_eq_of_cover 8 _ (fun t hf => flushed8_eq m c t hf) covered8).trans ?_
  rw [V_main_arg0, V_v0, V_v2]

end Cert.LnIdeal.Hand

end
-- ==== Proof.LnAlgebra.lean ====
/-
  The algebraic claim of `LnIdeal` against `LnRefIdeal` (hand-written, untrusted): what the reference leaves in its
  two output arrays, from its arguments; and that both programs leave the same arrays — the kernel adds `dgamma` block of
  rows by block of rows and multiplies a row's sum by 2⁻¹², the reference adds all the rows at once and divides by 4096.
-/
module

public import proofs.«01_k».proof.Defs
public import proofs.«01_k».proof.Proof.LnValue
public import proofs.«01_k».proof.Proof.Gen.LnRefIdeal.Value

@[expose] public section

noncomputable section

namespace Cert.LnRefIdeal.Hand

open Cert.LnRefIdeal Cert.LnRefIdeal.Gen
open Idealize.ShloMosaic Idealize.ShloMosaic.TcCoe Idealize.SL.Sem
open Idealize.ShloMosaic.Pipeline (Dat)

theorem hz2 : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ) (ρ : Dev nD → PrngReg)

/-! ## Every block of the one grid point is its whole array -/

theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S8192x4096.Idx) : ((cfg0.win 0).blk t).view.emb j = j := by
  obtain ⟨e0, e1⟩ := idx_zero0 t
  funext a; apply Fin.ext
  match a with
  | ⟨0, _⟩ => show win0_0.index t (0 : Fin 2) * 8192 + 1 * (j 0).val = (j 0).val; omega
  | ⟨1, _⟩ => show win0_0.index t (1 : Fin 2) * 4096 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S1x8192x4096.Idx) : ((cfg0.win 1).blk t).view.emb j = j := by
  obtain ⟨e0, e1, e2⟩ := idx_zero1 t
  funext a; apply Fin.ext
  match a with
  | ⟨0, _⟩ => show win0_1.index t (0 : Fin 3) * 1 + 1 * (j 0).val = (j 0).val; omega
  | ⟨1, _⟩ => show win0_1.index t (1 : Fin 3) * 8192 + 1 * (j 1).val = (j 1).val; omega
  | ⟨2, _⟩ => show win0_1.index t (2 : Fin 3) * 4096 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x8192.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x8192.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 8192 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S1x8192x4096.Idx) : ((cfg0.win 4).blk t).view.emb j = j := by
  obtain ⟨e0, e1, e2⟩ := idx_zero4 t
  funext a; apply Fin.ext
  match a with
  | ⟨0, _⟩ => show win0_4.index t (0 : Fin 3) * 1 + 1 * (j 0).val = (j 0).val; omega
  | ⟨1, _⟩ => show win0_4.index t (1 : Fin 3) * 8192 + 1 * (j 1).val = (j 1).val; omega
  | ⟨2, _⟩ => show win0_4.index t (2 : Fin 3) * 4096 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x8192.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 8192 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x4096.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 4096 + 1 * (j 1).val = (j 1).val; omega

/-- Input window 6's block at the point is its array as the region finds it. -/
theorem iblk6_eq (c : Dev nD) (t : Fin cfg0.N) : iblk m c 6 t = V m c main_v0 := by
  funext j; show V m c main_v0 (((cfg0.win 6).blk t).view.emb j) = V m c main_v0 j; rw [emb6]

theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S8192x4096.Idx) : ((cfg0.win 7).blk t).view.emb j = j := by
  obtain ⟨e0, e1⟩ := idx_zero7 t
  funext a; apply Fin.ext
  match a with
  | ⟨0, _⟩ => show win0_7.index t (0 : Fin 2) * 8192 + 1 * (j 0).val = (j 0).val; omega
  | ⟨1, _⟩ => show win0_7.index t (1 : Fin 2) * 4096 + 1 * (j 1).val = (j 1).val; omega

theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1x4096.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 4096 + 1 * (j 1).val = (j 1).val; omega

/-! ## The arrays after the run -/

/-- One row of the reference's `dx`: `dh · g` less its mean and less its projection on the row `xh · xs`, times `rs`,
    added to `dy · ds`. A mean is the sum divided by `n`. -/
def rowRef (n : EReal) (dh xh g dy : Fin 4096 → EReal) (xs rs ds : EReal) (j : Fin 4096) : EReal :=
  dy j * ds + rs * ((dh j * g j - Ideal.div (∑ k, dh k * g k) n) - (xh j * xs) * Ideal.div (∑ k, (dh k * g k) * (xh k * xs)) n)

/-- The reference's `dx`. -/
def dxRef (n : EReal) (dh : S8192x4096.Idx → EReal) (xh : S1x8192x4096.Idx → EReal) (xs rs : S1x8192.Idx → EReal) (dy : S1x8192x4096.Idx → EReal) (ds : S1x8192.Idx → EReal) (g : S1x4096.Idx → EReal) : S8192x4096.Idx → EReal :=
  fun i => rowRef n (fun k => dh (ix2 (i 0) k)) (fun k => xh (ix3 0 (i 0) k)) (fun k => g (ix2 0 k)) (fun k => dy (ix3 0 (i 0) k))
    (xs (ix2 0 (i 0))) (rs (ix2 0 (i 0))) (ds (ix2 0 (i 0))) (i 1)

/-- The reference's `dgamma`. -/
def dgRef (dh : S8192x4096.Idx → EReal) (xh : S1x8192x4096.Idx → EReal) (xs : S1x8192.Idx → EReal) : S1x4096.Idx → EReal :=
  fun i => ∑ r : Fin 8192, dh (ix2 r (i 1)) * (xh (ix3 0 r (i 1)) * xs (ix2 0 r))

theorem dx_apply (dh : S8192x4096.Idx → EReal) (xh : S1x8192x4096.Idx → EReal) (xs rs : S1x8192.Idx → EReal) (dy : S1x8192x4096.Idx → EReal) (ds : S1x8192.Idx → EReal) (g : S1x4096.Idx → EReal) (j : S8192x4096.Idx) :
    (k0_pay1 (F := Ideal) (k0_pay4 dh xh xs g rs) (k0_pay5 dy) ds : S8192x4096.Idx → EReal) j
      = dxRef (Ideal.ofBits .f32 0x45800000#32) dh xh xs rs dy ds g j := by
  unfold dxRef rowRef
  pointwise [k0_pay1, k0_pay2, k0_pay4, k0_pay5]

theorem dg_apply (dh : S8192x4096.Idx → EReal) (xh : S1x8192x4096.Idx → EReal) (xs : S1x8192.Idx → EReal) (j : S1x4096.Idx) :
    (k0_pay3 (F := Ideal) dh xh xs : S1x4096.Idx → EReal) j = dgRef dh xh xs j := by
  unfold dgRef
  pointwise [k0_pay3, k0_pay2]

theorem out7_eq (dh : S8192x4096.Idx → EReal) (xh : S1x8192x4096.Idx → EReal) (xs rs : S1x8192.Idx → EReal) (dy : S1x8192x4096.Idx → EReal) (ds : S1x8192.Idx → EReal) (g : S1x4096.Idx → EReal) :
    (out0_7 (F := Ideal) dh xh xs rs dy ds g : S8192x4096.Idx → EReal) = dxRef (Ideal.ofBits .f32 0x45800000#32) dh xh xs rs dy ds g := by
  unfold out0_7
  simp only [View.ld_unit_zero (S := S8192x4096) hz2, View.ld_unit_zero (S := S1x8192x4096) hz3, View.ld_unit_zero (S := S1x8192) hz2,
    View.ld_unit_zero (S := S1x4096) hz2]
  rw [View.canon_unit_zero hz2]
  funext j
  exact dx_apply dh xh xs rs dy ds g j

theorem out8_eq (dh : S8192x4096.Idx → EReal) (xh : S1x8192x4096.Idx → EReal) (xs rs : S1x8192.Idx → EReal) (dy : S1x8192x4096.Idx → EReal) (ds : S1x8192.Idx → EReal) (g : S1x4096.Idx → EReal) :
    (out0_8 (F := Ideal) dh xh xs rs dy ds g : S1x4096.Idx → EReal) = dgRef dh xh xs := by
  unfold out0_8
  simp only [View.ld_unit_zero (S := S8192x4096) hz2, View.ld_unit_zero (S := S1x8192x4096) hz3, View.ld_unit_zero (S := S1x8192) hz2]
  rw [View.canon_unit_zero hz2]
  funext j
  exact dg_apply dh xh xs j

/-- Reading an array through the block of `dx`, at an index. -/
theorem read7 (G : S8192x4096.Idx → EReal) (t : Fin cfg0.N) (j : S8192x4096.Idx) :
    ((cfg0.win 7).blk t).view.read (Elt Ideal) G j = G (((cfg0.win 7).blk t).view.emb j) := rfl

/-- The buffer of `dx` the body leaves at the point, from the arrays the region finds. -/
theorem flushed7_eq (c : Dev nD) (t : Fin cfg0.N) :
    (dats m 0 c).flushed 7 t = ((cfg0.win 7).blk t).view.read (Elt Ideal) (dxRef (Ideal.ofBits .f32 0x45800000#32) (V m c main_arg0) (V m c main_arg1) (V m c main_arg2) (V m c main_arg3) (V m c main_arg4) (V m c main_arg5) (V m c main_v0)) := by
  rw [Cert.LnRefIdeal.Value.flushed7, iblk0_eq, iblk1_eq, iblk2_eq, iblk3_eq, iblk4_eq, iblk5_eq, iblk6_eq]
  funext (j : S8192x4096.Idx)
  refine (congrFun (out7_eq (V m c main_arg0) (V m c main_arg1) (V m c main_arg2) (V m c main_arg3) (V m c main_arg4) (V m c main_arg5) (V m c main_v0)) j).trans (Eq.trans ?_ (read7 _ t j).symm)
  exact congrArg _ (emb7 t j).symm

/-- Reading an array through the block of `dgamma`, at an index. -/
theorem read8 (G : S1x4096.Idx → EReal) (t : Fin cfg0.N) (j : S1x4096.Idx) :
    ((cfg0.win 8).blk t).view.read (Elt Ideal) G j = G (((cfg0.win 8).blk t).view.emb j) := rfl

/-- The buffer of `dgamma` the body leaves at the point, from the arrays the region finds. -/
theorem flushed8_eq (c : Dev nD) (t : Fin cfg0.N) :
    (dats m 0 c).flushed 8 t = ((cfg0.win 8).blk t).view.read (Elt Ideal) (dgRef (V m c main_arg0) (V m c main_arg1) (V m c main_arg2)) := by
  rw [Cert.LnRefIdeal.Value.flushed8, iblk0_eq, iblk1_eq, iblk2_eq, iblk3_eq, iblk4_eq, iblk5_eq, iblk6_eq]
  funext (j : S1x4096.Idx)
  refine (congrFun (out8_eq (V m c main_arg0) (V m c main_arg1) (V m c main_arg2) (V m c main_arg3) (V m c main_arg4) (V m c main_arg5) (V m c main_v0)) j).trans (Eq.trans ?_ (read8 _ t j).symm)
  exact congrArg _ (emb8 t j).symm

theorem covered7 (i : S8192x4096.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem covered8 (i : S1x4096.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem V_v0 (c : Dev nD) : V m c main_v0 = broadcastInDim S1x4096 ![1] bcast_S4096_S1x4096_1 (m ((c : Thread nD τ).loc main_arg6)) := by
  show StableHlo.after hostOps0 (fun b => m (c, b)) _ = _
  after_results
  try rfl

/-- `dx` as the reference leaves it, from its arguments. -/
theorem value_dx (c : Dev nD) :
    (dats m 0 c).arrAt 7 cfg0.N = dxRef (Ideal.ofBits .f32 0x45800000#32) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (broadcastInDim S1x4096 ![1] bcast_S4096_S1x4096_1 (m ((c : Thread nD τ).loc main_arg6))) := by
  refine ((dats m 0 c).arrAt_eq_of_cover 7 _ (fun t _ => flushed7_eq m c t) covered7).trans ?_
  rw [V_main_arg0, V_main_arg1, V_main_arg2, V_main_arg3, V_main_arg4, V_main_arg5, V_v0]

/-- `dgamma` as the reference leaves it, from its arguments. -/
theorem value_dg (c : Dev nD) :
    (dats m 0 c).arrAt 8 cfg0.N = dgRef (m ((c : Thread nD τ).loc main_arg0)) (m ((c : Thread nD τ).loc main_arg1)) (m ((c : Thread nD τ).loc main_arg2)) := by
  refine ((dats m 0 c).arrAt_eq_of_cover 8 _ (fun t _ => flushed8_eq m c t) covered8).trans ?_
  rw [V_main_arg0, V_main_arg1, V_main_arg2]

/-! ## The layouts, read -/

/-- An array with a leading axis of one, read as a matrix. -/
theorem flat_at (X : S1x8192x4096.Idx → EReal) (r : Fin 8192) (k : Fin 4096) :
    (shapeCast Cert.LnIdeal.S8192x4096 X Cert.LnIdeal.Facts₀.shapeCasts_S1x8192x4096_S8192x4096 : Cert.LnIdeal.S8192x4096.Idx → EReal) (ix2 r k) = X (ix3 0 r k) := by
  pointwise

/-- A row of scales, read as a column. -/
theorem col_at (q : S1x8192.Idx → EReal) (r : Fin 8192) :
    (shapeCast Cert.LnIdeal.S8192x1 q Cert.LnIdeal.Facts₀.shapeCasts_S1x8192_S8192x1 : Cert.LnIdeal.S8192x1.Idx → EReal) (ix2 r 0) = q (ix2 0 r) := by
  pointwise

/-- `gamma`, read as a matrix of one row, by the kernel and by the reference. -/
theorem gamma_at (g : S4096.Idx → EReal) (k : Fin 4096) :
    (shapeCast Cert.LnIdeal.S1x4096 g Cert.LnIdeal.Facts₀.shapeCasts_S4096_S1x4096 : Cert.LnIdeal.S1x4096.Idx → EReal) (ix2 0 k)
      = (broadcastInDim S1x4096 ![1] bcast_S4096_S1x4096_1 g : S1x4096.Idx → EReal) (ix2 0 k) := by
  have h : (shapeCast Cert.LnIdeal.S1x4096 g Cert.LnIdeal.Facts₀.shapeCasts_S4096_S1x4096 : Cert.LnIdeal.S1x4096.Idx → EReal) (ix2 0 k) = g (ix1 k) := by
    pointwise
  have h' : (broadcastInDim S1x4096 ![1] bcast_S4096_S1x4096_1 g : S1x4096.Idx → EReal) (ix2 0 k) = g (ix1 k) := by
    pointwise
  rw [h, h']

/-! ## The two programs' functions -/

theorem ofBits_4096 : Ideal.ofBits .f32 0x45800000#32 = ((4096 : ℝ) : EReal) := by
  simp [Ideal.ofBits, Ideal.ieee]
  rw [← EReal.coe_mul]
  norm_num

theorem ofBits_inv : Ideal.ofBits .f32 0x39800000#32 = ((1 / 4096 : ℝ) : EReal) := by
  simp [Ideal.ofBits, Ideal.ieee]
  rw [← EReal.coe_mul]
  norm_num

/-- A quotient by 4096 is a product with 2⁻¹². -/
theorem div_4096 (x : EReal) : Ideal.div x (Ideal.ofBits .f32 0x45800000#32) = x * Ideal.ofBits .f32 0x39800000#32 := by
  rw [ofBits_4096, ofBits_inv]
  exact Ideal.div_coe (by norm_num) x

/-- The kernel's `dx` and the reference's are one function of the arguments. -/
theorem dx_eq (dh : S8192x4096.Idx → EReal) (xh : S1x8192x4096.Idx → EReal) (xs rs : S1x8192.Idx → EReal) (dy : S1x8192x4096.Idx → EReal) (ds : S1x8192.Idx → EReal) (g : S4096.Idx → EReal) :
    Cert.LnIdeal.Hand.dx (Ideal.ofBits .f32 0x39800000#32) dh
        (shapeCast Cert.LnIdeal.S8192x4096 xh Cert.LnIdeal.Facts₀.shapeCasts_S1x8192x4096_S8192x4096)
        (shapeCast Cert.LnIdeal.S8192x4096 dy Cert.LnIdeal.Facts₀.shapeCasts_S1x8192x4096_S8192x4096)
        (shapeCast Cert.LnIdeal.S8192x1 xs Cert.LnIdeal.Facts₀.shapeCasts_S1x8192_S8192x1)
        (shapeCast Cert.LnIdeal.S8192x1 rs Cert.LnIdeal.Facts₀.shapeCasts_S1x8192_S8192x1)
        (shapeCast Cert.LnIdeal.S8192x1 ds Cert.LnIdeal.Facts₀.shapeCasts_S1x8192_S8192x1)
        (shapeCast Cert.LnIdeal.S1x4096 g Cert.LnIdeal.Facts₀.shapeCasts_S4096_S1x4096)
      = dxRef (Ideal.ofBits .f32 0x45800000#32) dh xh xs rs dy ds (broadcastInDim S1x4096 ![1] bcast_S4096_S1x4096_1 g) := by
  have key : ∀ (r : Fin 8192) (j : Fin 4096),
      Cert.LnIdeal.Hand.rowDx (Ideal.ofBits .f32 0x39800000#32) (fun k => dh (ix2 r k))
          (fun k => (shapeCast Cert.LnIdeal.S8192x4096 xh Cert.LnIdeal.Facts₀.shapeCasts_S1x8192x4096_S8192x4096 : Cert.LnIdeal.S8192x4096.Idx → EReal) (ix2 r k))
          (fun k => (shapeCast Cert.LnIdeal.S1x4096 g Cert.LnIdeal.Facts₀.shapeCasts_S4096_S1x4096 : Cert.LnIdeal.S1x4096.Idx → EReal) (ix2 0 k))
          (fun k => (shapeCast Cert.LnIdeal.S8192x4096 dy Cert.LnIdeal.Facts₀.shapeCasts_S1x8192x4096_S8192x4096 : Cert.LnIdeal.S8192x4096.Idx → EReal) (ix2 r k))
          ((shapeCast Cert.LnIdeal.S8192x1 xs Cert.LnIdeal.Facts₀.shapeCasts_S1x8192_S8192x1 : Cert.LnIdeal.S8192x1.Idx → EReal) (ix2 r 0))
          ((shapeCast Cert.LnIdeal.S8192x1 rs Cert.LnIdeal.Facts₀.shapeCasts_S1x8192_S8192x1 : Cert.LnIdeal.S8192x1.Idx → EReal) (ix2 r 0))
          ((shapeCast Cert.LnIdeal.S8192x1 ds Cert.LnIdeal.Facts₀.shapeCasts_S1x8192_S8192x1 : Cert.LnIdeal.S8192x1.Idx → EReal) (ix2 r 0)) j
        = rowRef (Ideal.ofBits .f32 0x45800000#32) (fun k => dh (ix2 r k)) (fun k => xh (ix3 0 r k))
          (fun k => (broadcastInDim S1x4096 ![1] bcast_S4096_S1x4096_1 g : S1x4096.Idx → EReal) (ix2 0 k)) (fun k => dy (ix3 0 r k))
          (xs (ix2 0 r)) (rs (ix2 0 r)) (ds (ix2 0 r)) j := by
    intro r j
    unfold Cert.LnIdeal.Hand.rowDx rowRef
    simp only [flat_at, col_at, gamma_at, div_4096]
  funext i
  exact key (i 0) (i 1)

/-- `K` blocks of `n` terms, added block by block, are the first `K n` terms added. -/
theorem sum_blocks (n : ℕ) (f : ℕ → EReal) (K : ℕ) :
    ∑ k ∈ Finset.range K, ∑ x : Fin n, f (n * k + x.val) = ∑ i ∈ Finset.range (n * K), f i := by
  induction K with
  | zero => simp
  | succ K ih => rw [Finset.sum_range_succ, ih, Nat.mul_succ, Finset.sum_range_add, Fin.sum_univ_eq_sum_range (fun x => f (n * K + x)) n]

/-- The kernel's `dgamma`, 32 blocks of 256 rows, and the reference's, all 8192 rows, are one function of the arguments. -/
theorem dg_eq (dh : S8192x4096.Idx → EReal) (xh : S1x8192x4096.Idx → EReal) (xs : S1x8192.Idx → EReal) :
    Cert.LnIdeal.Hand.dg dh (shapeCast Cert.LnIdeal.S8192x4096 xh Cert.LnIdeal.Facts₀.shapeCasts_S1x8192x4096_S8192x4096)
        (shapeCast Cert.LnIdeal.S8192x1 xs Cert.LnIdeal.Facts₀.shapeCasts_S1x8192_S8192x1)
      = dgRef dh xh xs := by
  have key : ∀ j : Fin 4096, ∑ k ∈ Finset.range 32, Cert.LnIdeal.Hand.stepG dh
        (shapeCast Cert.LnIdeal.S8192x4096 xh Cert.LnIdeal.Facts₀.shapeCasts_S1x8192x4096_S8192x4096)
        (shapeCast Cert.LnIdeal.S8192x1 xs Cert.LnIdeal.Facts₀.shapeCasts_S1x8192_S8192x1) j k
      = ∑ r : Fin 8192, dh (ix2 r j) * (xh (ix3 0 r j) * xs (ix2 0 r)) := by
    intro j
    let f : ℕ → EReal := fun n => dh (ix2 (⟨n % 8192, Nat.mod_lt _ (by decide)⟩ : Fin 8192) j)
      * (xh (ix3 0 (⟨n % 8192, Nat.mod_lt _ (by decide)⟩ : Fin 8192) j) * xs (ix2 0 (⟨n % 8192, Nat.mod_lt _ (by decide)⟩ : Fin 8192)))
    have h1 : ∀ k : ℕ, Cert.LnIdeal.Hand.stepG dh
        (shapeCast Cert.LnIdeal.S8192x4096 xh Cert.LnIdeal.Facts₀.shapeCasts_S1x8192x4096_S8192x4096)
        (shapeCast Cert.LnIdeal.S8192x1 xs Cert.LnIdeal.Facts₀.shapeCasts_S1x8192_S8192x1) j k = ∑ x : Fin 256, f (256 * k + x.val) := by
      intro k
      unfold Cert.LnIdeal.Hand.stepG
      refine Finset.sum_congr rfl fun x _ => ?_
      rw [flat_at, col_at]
      rfl
    rw [Finset.sum_congr rfl fun k _ => h1 k, sum_blocks 256 f 32, show 256 * 32 = 8192 from rfl, ← Fin.sum_univ_eq_sum_range f 8192]
    refine Finset.sum_congr rfl fun r _ => ?_
    have e : (⟨r.val % 8192, Nat.mod_lt _ (by decide)⟩ : Fin 8192) = r := Fin.ext (Nat.mod_eq_of_lt r.isLt)
    show dh (ix2 (⟨r.val % 8192, _⟩ : Fin 8192) j) * (xh (ix3 0 (⟨r.val % 8192, _⟩ : Fin 8192) j) * xs (ix2 0 (⟨r.val % 8192, _⟩ : Fin 8192))) = _
    rw [e]
  funext i
  exact key (i 1)

end Cert.LnRefIdeal.Hand

namespace Cert.Proof

open Idealize.ShloMosaic Idealize.ShloMosaic.TcCoe Idealize.SL.Sem

/-- From the same arguments the kernel and the reference leave the same `dx` and the same `dgamma`. -/
theorem algebraic_ln : Cert.algebraic_LnIdeal_LnRefIdeal := by
  intro m ρ m' ρ' _ hagree
  refine ⟨_, _, Cert.LnIdeal.Value.run_blocks m ρ, ?_⟩
  refine (θ_run (Cert.LnRefIdeal.defs (F := Ideal)) _ _).mono (fun r h c => ?_) (Cert.LnRefIdeal.Value.run_blocks m' ρ')
  obtain ⟨h7, h8, hargs⟩ := h c
  obtain ⟨a0, a1, a2, a3, a4, a5, a6⟩ := hagree c
  refine ⟨h7.trans ?_, h8.trans ?_, hargs⟩
  · rw [Cert.LnIdeal.Hand.value_dx, Cert.LnRefIdeal.Hand.value_dx, a0, a1, a2, a3, a4, a5, a6]
    exact (Cert.LnRefIdeal.Hand.dx_eq _ _ _ _ _ _ _).symm
  · rw [Cert.LnIdeal.Hand.value_dg, Cert.LnRefIdeal.Hand.value_dg, a0, a1, a2]
    exact (Cert.LnRefIdeal.Hand.dg_eq _ _ _).symm

end Cert.Proof

end
-- ==== Proof.lean ====
module

public import proofs.«01_k».proof.Defs
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Skeleton
public import proofs.«01_k».proof.Proof.Gen.DwQkvRefIdeal.Launch
public import proofs.«01_k».proof.Proof.Gen.DwQkvRefIdeal.Points
public import proofs.«01_k».proof.Proof.Gen.DwQkvRefIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Skeleton
public import proofs.«01_k».proof.Proof.Gen.DwInRefIdeal.Launch
public import proofs.«01_k».proof.Proof.Gen.DwInRefIdeal.Points
public import proofs.«01_k».proof.Proof.Gen.DwInRefIdeal.Frame
public import proofs.«01_k».proof.Proof.Gen.DwOutRefIdeal.Value
public import proofs.«01_k».proof.Proof.Gen.DwQkvRefIdeal.Value
public import proofs.«01_k».proof.Proof.Gen.DwInRefIdeal.Value
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Skeleton
public import proofs.«01_k».proof.Proof.Gen.DhRefIdeal.Launch
public import proofs.«01_k».proof.Proof.Gen.DhRefIdeal.Points
public import proofs.«01_k».proof.Proof.Gen.DhRefIdeal.Frame
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.LnRefIdeal.Skeleton
public import proofs.«01_k».proof.Proof.Gen.LnRefIdeal.Launch
public import proofs.«01_k».proof.Proof.Gen.LnRefIdeal.Points
public import proofs.«01_k».proof.Proof.Gen.LnRefIdeal.Frame
public import proofs.«01_k».proof.Proof.Gen.DhRefIdeal.Value
public import proofs.«01_k».proof.Proof.Gen.LnRefIdeal.Value
public import proofs.«01_k».proof.Proof.Gen.LnIdeal.Value
public import proofs.«01_k».proof.Proof.DwOutAlgebra
public import proofs.«01_k».proof.Proof.DwQkvAlgebra
public import proofs.«01_k».proof.Proof.DwInAlgebra
public import proofs.«01_k».proof.Proof.DhAlgebra
public import proofs.«01_k».proof.Proof.LnAlgebra
public import Idealize.ShloMosaic.Adequacy
public import Idealize.ShloMosaic.Init

@[expose] public section

noncomputable section

namespace Cert.Proof

open Idealize.ShloMosaic Idealize.SL.Sem Cert.DwOut

/-- The one side condition of the predicate on the scales: a number can be spread over the array of scales. -/
theorem preFacts : Cert.Pre_finite_scales.Facts := ⟨by decide⟩

/-- The frames of the fifteen programs, and for each of the five calls: its idealization preserves it, and it leaves what
    the reference leaves. -/
theorem claim : Cert.Claim := ⟨Cert.DwOut.Gen.facts, Cert.DwOutIdeal.Gen.facts, Cert.DwOutRefIdeal.Gen.facts, Cert.DwQkv.Gen.facts, Cert.DwQkvIdeal.Gen.facts, Cert.DwQkvRefIdeal.Gen.facts, Cert.DwIn.Gen.facts, Cert.DwInIdeal.Gen.facts, Cert.DwInRefIdeal.Gen.facts, Cert.Dh.Gen.facts, Cert.DhIdeal.Gen.facts, Cert.DhRefIdeal.Gen.facts, Cert.Ln.Gen.facts, Cert.LnIdeal.Gen.facts, Cert.LnRefIdeal.Gen.facts, preFacts,
  fun m ρ _ => Cert.DwOut.Gen.frame m ρ,
  fun m ρ _ => Cert.DwOutIdeal.Gen.frame m ρ,
  fun m ρ _ => Cert.DwOutRefIdeal.Gen.frame m ρ,
  fun m ρ _ => Cert.DwQkv.Gen.frame m ρ,
  fun m ρ _ => Cert.DwQkvIdeal.Gen.frame m ρ,
  fun m ρ _ => Cert.DwQkvRefIdeal.Gen.frame m ρ,
  fun m ρ _ => Cert.DwIn.Gen.frame m ρ,
  fun m ρ _ => Cert.DwInIdeal.Gen.frame m ρ,
  fun m ρ _ => Cert.DwInRefIdeal.Gen.frame m ρ,
  fun m ρ _ => Cert.Dh.Gen.frame m ρ,
  fun m ρ _ => Cert.DhIdeal.Gen.frame m ρ,
  fun m ρ _ => Cert.DhIdeal.Gen.frame m ρ,
  fun m ρ _ => Cert.DhRefIdeal.Gen.frame m ρ,
  fun m ρ _ => Cert.DhRefIdeal.Gen.frame m ρ,
  fun m ρ _ => Cert.Ln.Gen.frame m ρ,
  fun m ρ _ => Cert.LnIdeal.Gen.frame m ρ,
  fun m ρ _ => Cert.LnRefIdeal.Gen.frame m ρ,
  trivial,
  algebraic_out,
  trivial,
  algebraic_qkv,
  trivial,
  algebraic_in,
  trivial,
  @algebraic_dh preFacts,
  trivial,
  algebraic_ln⟩

end Cert.Proof

end
